-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1536x7168 : Shape := ⟨3, ![4, 1536, 7168]⟩
abbrev S4x1536x1 : Shape := ⟨3, ![4, 1536, 1]⟩
abbrev S7168x18432 : Shape := ⟨2, ![7168, 18432]⟩
abbrev S1x18432 : Shape := ⟨2, ![1, 18432]⟩
abbrev S6144x7168 : Shape := ⟨2, ![6144, 7168]⟩
abbrev S6x8x128 : Shape := ⟨3, ![6, 8, 128]⟩
abbrev S72x1x256 : Shape := ⟨3, ![72, 1, 256]⟩
abbrev S6144x9216 : Shape := ⟨2, ![6144, 9216]⟩
abbrev S1024x7168 : Shape := ⟨2, ![1024, 7168]⟩
abbrev S1x8x128 : Shape := ⟨3, ![1, 8, 128]⟩
abbrev S7168x256 : Shape := ⟨2, ![7168, 256]⟩
abbrev S1x1x256 : Shape := ⟨3, ![1, 1, 256]⟩
abbrev S1024x256 : Shape := ⟨2, ![1024, 256]⟩
abbrev S1024x9216 : Shape := ⟨2, ![1024, 9216]⟩
abbrev S1024x128 : Shape := ⟨2, ![1024, 128]⟩
abbrev S1024 : Shape := ⟨1, ![1024]⟩
abbrev S1024x1 : Shape := ⟨2, ![1024, 1]⟩
abbrev S128x128 : Shape := ⟨2, ![128, 128]⟩
abbrev S1x128 : Shape := ⟨2, ![1, 128]⟩
abbrev S8x128 : Shape := ⟨2, ![8, 128]⟩
abbrev S1x1x128 : Shape := ⟨3, ![1, 1, 128]⟩
abbrev S256x7168 : Shape := ⟨2, ![256, 7168]⟩
abbrev S256x256 : Shape := ⟨2, ![256, 256]⟩
abbrev S256x128 : Shape := ⟨2, ![256, 128]⟩
abbrev S1x256 : Shape := ⟨2, ![1, 256]⟩
abbrev S4x1536x9216 : Shape := ⟨3, ![4, 1536, 9216]⟩

abbrev nBuf : Space → Nat
  | .hbm => 11
  | .vmem => 20
  | .smem => 0
  | _ => 0

abbrev bufTy : (tb : Table) → Fin (tcTables nBuf tb) → BufTy
  | .hbm, ⟨0, _⟩ => ⟨S4x1536x7168, .fp8e4m3⟩
  | .hbm, ⟨1, _⟩ => ⟨S4x1536x1, .f32⟩
  | .hbm, ⟨2, _⟩ => ⟨S7168x18432, .fp8e4m3⟩
  | .hbm, ⟨3, _⟩ => ⟨S1x18432, .f32⟩
  | .hbm, ⟨4, _⟩ => ⟨S6144x7168, .fp8e4m3⟩
  | .hbm, ⟨5, _⟩ => ⟨S6x8x128, .f32⟩
  | .hbm, ⟨6, _⟩ => ⟨S72x1x256, .f32⟩
  | .hbm, ⟨7, _⟩ => ⟨S6144x9216, .fp8e4m3⟩
  | .hbm, ⟨8, _⟩ => ⟨S6x8x128, .f32⟩
  | .hbm, ⟨9, _⟩ => ⟨S4x1536x9216, .fp8e4m3⟩
  | .hbm, ⟨10, _⟩ => ⟨S4x1536x1, .f32⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1x8x128, .f32⟩
  | .local _ .vmem, ⟨3, _⟩ => ⟨S1x8x128, .f32⟩
  | .local _ .vmem, ⟨4, _⟩ => ⟨S7168x256, .fp8e4m3⟩
  | .local _ .vmem, ⟨5, _⟩ => ⟨S7168x256, .fp8e4m3⟩
  | .local _ .vmem, ⟨6, _⟩ => ⟨S7168x256, .fp8e4m3⟩
  | .local _ .vmem, ⟨7, _⟩ => ⟨S7168x256, .fp8e4m3⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1024x256, .fp8e4m3⟩
  | .local _ .vmem, ⟨13, _⟩ => ⟨S1024x256, .fp8e4m3⟩
  | .local _ .vmem, ⟨14, _⟩ => ⟨S1x8x128, .f32⟩
  | .local _ .vmem, ⟨15, _⟩ => ⟨S1x8x128, .f32⟩
  | .local _ .vmem, ⟨16, _⟩ => ⟨S1024x9216, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S4x1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![7, 36], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond3 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_mult2 (i : grid0.Coords) : BitVec 32 :=
  let arg1 : BitVec 32 := BitVec.ofNat 32 (i 1).val
  let c256_i32_5 : BitVec 32 := 256#32
  let v12 : BitVec 32 := Scalar.muli arg1 c256_i32_5
  let c0_i32_6 : BitVec 32 := 0#32
  let v13 : BitVec 32 := Scalar.addi v12 c0_i32_6
  v13
def k0_off1 (i : grid0.Coords) (c0_i32_6 : BitVec 32) : Fin 2 → Nat :=
  let c0_7 : Index := 0#32
  let arg1 : BitVec 32 := BitVec.ofNat 32 (i 1).val
  let c256_i32_5 : BitVec 32 := 256#32
  let v12 : BitVec 32 := Scalar.muli arg1 c256_i32_5
  let v13 : BitVec 32 := Scalar.addi v12 c0_i32_6
  let v14 : BitVec 32 := v13
  let v15 : Index := Scalar.indexCast v14
  ![0, v15.toNat]
def k0_mult3 (i : grid0.Coords) : BitVec 32 :=
  let arg1 : BitVec 32 := BitVec.ofNat 32 (i 1).val
  let c256_i32_11 : BitVec 32 := 256#32
  let v24 : BitVec 32 := Scalar.muli arg1 c256_i32_11
  let c128_i32 : BitVec 32 := 128#32
  let v25 : BitVec 32 := Scalar.addi v24 c128_i32
  v25
def k0_cond4 (i : grid0.Coords) : BitVec 1 :=
  let arg0 : BitVec 32 := BitVec.ofNat 32 (i 0).val
  let c6_i32 : BitVec 32 := 6#32
  let v8 : BitVec 1 := Scalar.cmpi .slt arg0 c6_i32
  let v9 : BitVec 32 := Scalar.extui v8
  let c0_i32_3 : BitVec 32 := 0#32
  let v10 : BitVec 1 := Scalar.cmpi .ne v9 c0_i32_3
  v10

def k0_off2 (i : grid0.Coords) : Fin 2 → Nat :=
  let c0_20 : Index := 0#32
  let arg1 : BitVec 32 := BitVec.ofNat 32 (i 1).val
  let c256_i32 : BitVec 32 := 256#32
  let v0 : BitVec 32 := Scalar.muli arg1 c256_i32
  let v1 : BitVec 32 := v0
  let v36 : Index := Scalar.indexCast v1
  ![0, v36.toNat]
def k0_off3 (i : grid0.Coords) : Fin 2 → Nat :=
  let c256_42 : Index := 256#32
  let arg1 : BitVec 32 := BitVec.ofNat 32 (i 1).val
  let c256_i32 : BitVec 32 := 256#32
  let v0 : BitVec 32 := Scalar.muli arg1 c256_i32
  let v1 : BitVec 32 := v0
  let v74 : Index := Scalar.indexCast v1
  ![256, v74.toNat]
def k0_off4 (i : grid0.Coords) : Fin 2 → Nat :=
  let c512_64 : Index := 512#32
  let arg1 : BitVec 32 := BitVec.ofNat 32 (i 1).val
  let c256_i32 : BitVec 32 := 256#32
  let v0 : BitVec 32 := Scalar.muli arg1 c256_i32
  let v1 : BitVec 32 := v0
  let v112 : Index := Scalar.indexCast v1
  ![512, v112.toNat]
def k0_off5 (i : grid0.Coords) : Fin 2 → Nat :=
  let c768_86 : Index := 768#32
  let arg1 : BitVec 32 := BitVec.ofNat 32 (i 1).val
  let c256_i32 : BitVec 32 := 256#32
  let v0 : BitVec 32 := Scalar.muli arg1 c256_i32
  let v1 : BitVec 32 := v0
  let v150 : Index := Scalar.indexCast v1
  ![768, v150.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c35_i32 : BitVec 32 := 35#32
  let v1 : BitVec 32 := Scalar.select v0 arg1 c35_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c35_i32 : BitVec 32 := 35#32
  let v1 : BitVec 32 := Scalar.select v0 arg1 c35_i32
  let c36_i32 : BitVec 32 := 36#32
  let v2 : BitVec 32 := Scalar.addi v1 c36_i32
  let c0_i32 : BitVec 32 := 0#32
  let c0_i32_0 : BitVec 32 := 0#32
  ![c0_i32.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi arg1 c36_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7168x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x1536x7168 : Shape := ⟨3, ![4, 1536, 7168]⟩
abbrev S4x1536x1 : Shape := ⟨3, ![4, 1536, 1]⟩
abbrev S7168x18432 : Shape := ⟨2, ![7168, 18432]⟩
abbrev S1x18432 : Shape := ⟨2, ![1, 18432]⟩
abbrev S6144x7168 : Shape := ⟨2, ![6144, 7168]⟩
abbrev S6144x1 : Shape := ⟨2, ![6144, 1]⟩
abbrev S6144x9216 : Shape := ⟨2, ![6144, 9216]⟩
abbrev S6144x18432 : Shape := ⟨2, ![6144, 18432]⟩
abbrev S6144 : Shape := ⟨1, ![6144]⟩
abbrev S6144x277 : Shape := ⟨2, ![6144, 277]⟩
abbrev S4x1536x9216 : Shape := ⟨3, ![4, 1536, 9216]⟩

abbrev nBuf : Space → Nat
  | .hbm => 10
  | .vmem => 6
  | .smem => 0
  | _ => 0

abbrev bufTy : (tb : Table) → Fin (tcTables nBuf tb) → BufTy
  | .hbm, ⟨0, _⟩ => ⟨S4x1536x7168, .fp8e4m3⟩
  | .hbm, ⟨1, _⟩ => ⟨S4x1536x1, .f32⟩
  | .hbm, ⟨2, _⟩ => ⟨S7168x18432, .fp8e4m3⟩
  | .hbm, ⟨3, _⟩ => ⟨S1x18432, .f32⟩
  | .hbm, ⟨4, _⟩ => ⟨S6144x7168, .fp8e4m3⟩
  | .hbm, ⟨5, _⟩ => ⟨S6144x1, .f32⟩
  | .hbm, ⟨6, _⟩ => ⟨S6144x9216, .fp8e4m3⟩
  | .hbm, ⟨7, _⟩ => ⟨S6144x1, .f32⟩
  | .hbm, ⟨8, _⟩ => ⟨S4x1536x9216, .fp8e4m3⟩
  | .hbm, ⟨9, _⟩ => ⟨S4x1536x1, .f32⟩
  | .local _ .vmem, ⟨0, _⟩ => ⟨S6144x7168, .fp8e4m3⟩
  | .local _ .vmem, ⟨1, _⟩ => ⟨S6144x1, .f32⟩
  | .local _ .vmem, ⟨2, _⟩ => ⟨S7168x18432, .fp8e4m3⟩
  | .local _ .vmem, ⟨3, _⟩ => ⟨S1x18432, .f32⟩
  | .local _ .vmem, ⟨4, _⟩ => ⟨S6144x9216, .fp8e4m3⟩
  | .local _ .vmem, ⟨5, _⟩ => ⟨S6144x1, .f32⟩
  | _, _ => ⟨S4x1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRuns.lean ====
/- What the runs of the unchanged kernel's body share: its branch conditions over the grid, where its windows are idle,
   its staging and scratch buffers. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The buffers the lines after the region WRITE, as references: results computed from contents the run does not name
    (an operand the body wrote by its own DMA, or a forgotten output), so nothing is stated of them either. -/
def T0 : Finset (Ref sig .tc) := {main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 36) — by arithmetic of the point. -/
theorem hcond0_0 : ∀ t : Fin cfg0.N, cond0_0 (grid0.coords t) ↔ t.val % 36 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 1 % 36 := Pipeline.Grid.coords_val t 1 (by decide) rfl
    simp only [cond0_0, k0_cond1, e0, e1]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the points from point 36 on — decided over the grid. -/
theorem hcond0_1 : ∀ t : Fin cfg0.N, cond0_1 (grid0.coords t) ↔ 36 ≤ t.val :=
  (by decide +kernel : ∀ t : Fin grid0.N, cond0_1 (grid0.coords t) ↔ 36 ≤ t.val)

/-- The condition of the body's `scf.if` 2 (`k0_h3`), from the grid coordinates (the skeleton's scalar
    chain substituted). -/
abbrev cond0_2 (i : grid0.Coords) : Prop := k0_cond3 i = 1#1
/-- It holds at the points from point 36 on — decided over the grid. -/
theorem hcond0_2 : ∀ t : Fin cfg0.N, cond0_2 (grid0.coords t) ↔ 36 ≤ t.val :=
  (by decide +kernel : ∀ t : Fin grid0.N, cond0_2 (grid0.coords t) ↔ 36 ≤ t.val)

/-- The condition of the body's `scf.if` 3 (`k0_h4`), from the grid coordinates (the skeleton's scalar
    chain substituted). -/
abbrev cond0_3 (i : grid0.Coords) : Prop := k0_cond4 i = 1#1
/-- It holds at the points before point 216 — decided over the grid. -/
theorem hcond0_3 : ∀ t : Fin cfg0.N, cond0_3 (grid0.coords t) ↔ t.val < 216 :=
  (by decide +kernel : ∀ t : Fin grid0.N, cond0_3 (grid0.coords t) ↔ t.val < 216)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x9216 .f32 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3
/-- The scratch `arg11` the kernel carries between points, as a view: what it holds is stated through it. -/
abbrev VS0_1 : View sig .tc .vmem S1024x128 .f32 := scM0_1.view
/-- The scratch `arg13` the kernel carries between points, as a view: what it holds is stated through it. -/
abbrev VS0_3 : View sig .tc .vmem S1024x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Own

end
-- ==== Proof.KernelRunA.lean ====
/- The unchanged kernel's whole body in case A of its branches. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_A (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) :
    Σ' (LS1 : List (View.Piece (Elt F) S1024x128 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_swiglu_fp8_eq_skeleton]; unfold cc0_swiglu_fp8_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    iexists _; iexact HS3

end Cert.Kernel.Own

end
-- ==== Proof.KernelRunB.lean ====
/- The unchanged kernel's whole body in case B of its branches. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 2 not taken, `scf.if` 3 taken: points 1, 2, … 35: 35 of 252), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_B (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) :
    Σ' (LS1 : List (View.Piece (Elt F) S1024x128 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨[], ?_, fun E K => ?run⟩
  case run =>
    simp only [cc0_swiglu_fp8_eq_skeleton]; unfold cc0_swiglu_fp8_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1; obtain rfl := harg13.eq_unread hfs3
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg11.read_unread _
      iexact HS1
    isplitl [HS2]
    · iexists _, _; isplitr; swap; · iexact HS2
      ipureintro; rfl
    iexists _; iexact HS3

end Cert.Kernel.Own

end
-- ==== Proof.KernelRunC.lean ====
/- The unchanged kernel's whole body in case C of its branches. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 taken, `scf.if` 1 taken, `scf.if` 2 taken, `scf.if` 3 taken: points 36, 72, 108, 144, 180), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_C (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) :
    Σ' (LS1 : List (View.Piece (Elt F) S1024x128 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_swiglu_fp8_eq_skeleton]; unfold cc0_swiglu_fp8_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    iexists _; iexact HS3

end Cert.Kernel.Own

end
-- ==== Proof.KernelRunD.lean ====
/- The unchanged kernel's whole body in case D of its branches. -/
module

public import proofs.«01_k».proof.Proof.KernelRunC

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 2 taken, `scf.if` 3 taken: points 37, 38, … 215: 175 of 252), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_D (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) :
    Σ' (LS1 : List (View.Piece (Elt F) S1024x128 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨[], ?_, fun E K => ?run⟩
  case run =>
    simp only [cc0_swiglu_fp8_eq_skeleton]; unfold cc0_swiglu_fp8_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1; obtain rfl := harg13.eq_unread hfs3
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg11.read_unread _
      iexact HS1
    isplitl [HS2]
    · iexists _, _; isplitr; swap; · iexact HS2
      ipureintro; rfl
    iexists _; iexact HS3

end Cert.Kernel.Own

end
-- ==== Proof.KernelRunE.lean ====
/- The unchanged kernel's whole body in case E of its branches. -/
module

public import proofs.«01_k».proof.Proof.KernelRunD

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 taken, `scf.if` 1 taken, `scf.if` 2 taken, `scf.if` 3 not taken: points 216), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_E (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) :
    Σ' (LS1 : List (View.Piece (Elt F) S1024x128 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d) ∗ (∃ f, arg13.view.loc (c : Thread nD τ) ↦[arg13.view.set]{fullShare} arg13.view.writes (Elt F) f LS3)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_swiglu_fp8_eq_skeleton]; unfold cc0_swiglu_fp8_skel
    simp only [k0_part4_eq_skeleton, k0_part1_eq_skeleton, k0_part2_eq_skeleton, k0_part3_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    iexists _; iexact HS3

end Cert.Kernel.Own

end
-- ==== Proof.KernelRunF.lean ====
/- The unchanged kernel's whole body in case F of its branches. -/
module

public import proofs.«01_k».proof.Proof.KernelRunE

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE F (`scf.if` 0 not taken, `scf.if` 2 taken, `scf.if` 3 not taken: points 217, 218, … 251: 35 of 252), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_F (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) :
    Σ' (LS1 : List (View.Piece (Elt F) S1024x128 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ owns (c : Thread nD τ) arg13 fullShare xs3) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨[], [], fun E K => ?run⟩
  case run =>
    simp only [cc0_swiglu_fp8_eq_skeleton]; unfold cc0_swiglu_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1; obtain rfl := harg13.eq_unread hfs3
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg11.read_unread _
      iexact HS1
    isplitl [HS2]
    · iexists _, _; isplitr; swap; · iexact HS2
      ipureintro; rfl
    iexists _; isplitr; · ipureintro; exact harg13.read_unread _
    iexact HS3

end Cert.Kernel.Own

end
-- ==== Proof.KernelFrame.lean ====
/- The unchanged kernel's frame: from any launch the program runs to an end and leaves its arguments as they were. -/
module

public import proofs.«01_k».proof.Proof.KernelRunF
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 8 pieces of `S128x128` tiling it (Lib/Ring.lean `Piece.tiledL`). -/
theorem scover0_A_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5).1 S128x128.size (by sl_kernel_rfl) y

/-- What case A leaves in scratch `arg11`: its pieces read back over junk. -/
def sout0_A_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5).1)

/-- Case A's pieces for scratch `arg13`, which the kernel carries between points, cover it: one of them a store of the WHOLE buffer (Lib/Ring.lean `sl_whole_mem`). -/
theorem scover0_A_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5).2.1 (by sl_whole_mem) y

/-- What case A leaves in scratch `arg13`: its pieces read back over junk. -/
def sout0_A_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) : Vec F S1024x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5).2.1)

/-- Case B stores nothing into scratch `arg11`: it holds what the point before left. -/
def sout0_B_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) : Vec F S1024x128 .f32 := xs1

/-- Case B's pieces for scratch `arg13`, which the kernel carries between points, cover it: 4 pieces of `S256x128` tiling it (Lib/Ring.lean `Piece.tiledL`). -/
theorem scover0_B_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 xs1 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 xs1 xs3).2.1 S256x128.size (by sl_kernel_rfl) y

/-- What case B leaves in scratch `arg13`: its pieces read back over junk. -/
def sout0_B_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) : Vec F S1024x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 xs1 xs3).2.1)

/-- Case C's pieces for scratch `arg11`, which the kernel carries between points, cover it: 8 pieces of `S128x128` tiling it (Lib/Ring.lean `Piece.tiledL`). -/
theorem scover0_C_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).1 S128x128.size (by sl_kernel_rfl) y

/-- What case C leaves in scratch `arg11`: its pieces read back over junk. -/
def sout0_C_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).1)

/-- Case C's pieces for scratch `arg13`, which the kernel carries between points, cover it: one of them a store of the WHOLE buffer (Lib/Ring.lean `sl_whole_mem`). -/
theorem scover0_C_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).2.1 (by sl_whole_mem) y

/-- What case C leaves in scratch `arg13`: its pieces read back over junk. -/
def sout0_C_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) : Vec F S1024x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).2.1)

/-- Case D stores nothing into scratch `arg11`: it holds what the point before left. -/
def sout0_D_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) : Vec F S1024x128 .f32 := xs1

/-- Case D's pieces for scratch `arg13`, which the kernel carries between points, cover it: 4 pieces of `S256x128` tiling it (Lib/Ring.lean `Piece.tiledL`). -/
theorem scover0_D_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) (y : S1024x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 xs1 xs3).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 xs1 xs3).2.1 S256x128.size (by sl_kernel_rfl) y

/-- What case D leaves in scratch `arg13`: its pieces read back over junk. -/
def sout0_D_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) : Vec F S1024x128 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 xs1 xs3).2.1)

/-- Case E's pieces for scratch `arg11`, which the kernel carries between points, cover it: 8 pieces of `S128x128` tiling it (Lib/Ring.lean `Piece.tiledL`). -/
theorem scover0_E_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) (y : S1024x128.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).1 S128x128.size (by sl_kernel_rfl) y

/-- What case E leaves in scratch `arg11`: its pieces read back over junk. -/
def sout0_E_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) : Vec F S1024x128 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).1)

/-- Case E's pieces for scratch `arg13`, which the kernel carries between points, cover it: 1 piece of `S1024x128` tiling it (Lib/Ring.lean `Piece.tiledL`). -/
theorem scover0_E_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) (y : S1024x128.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).2.1 S1024x128.size (by sl_kernel_rfl) y

/-- What case E leaves in scratch `arg13`: its pieces read back over junk. -/
def sout0_E_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs3 : Vec F S1024x128 .f32) : Vec F S1024x128 .f32 :=
  VS0_3.read (Elt F) (VS0_3.writes (Elt F) VS0_3.junk (kernelRun0_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs3).2.1)

/-- Case F stores nothing into scratch `arg11`: it holds what the point before left. -/
def sout0_F_1 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) : Vec F S1024x128 .f32 := xs1

/-- Case F stores nothing into scratch `arg13`: it holds what the point before left. -/
def sout0_F_3 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (xs1 : Vec F S1024x128 .f32) (xs3 : Vec F S1024x128 .f32) : Vec F S1024x128 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x128 .f32 × Vec F S1024x128 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 36 = 0 then
      if h1 : 36 ≤ (n + 1) then
        if h2 : 36 ≤ (n + 1) then
          if h3 : (n + 1) < 216 then
            (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
          else
            (sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
        else
          False.elim (by have hN : n + 1 < 252 := lt_of_lt_of_eq hn (show cfg0.N = 252 from N_0); omega)
      else
        if h2 : 36 ≤ (n + 1) then
          False.elim (by have hN : n + 1 < 252 := lt_of_lt_of_eq hn (show cfg0.N = 252 from N_0); omega)
        else
          if h3 : (n + 1) < 216 then
            (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
          else
            False.elim (by have hN : n + 1 < 252 := lt_of_lt_of_eq hn (show cfg0.N = 252 from N_0); omega)
    else
      if h2 : 36 ≤ (n + 1) then
        if h3 : (n + 1) < 216 then
          (sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)
        else
          (sout0_F_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_F_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)
      else
        if h3 : (n + 1) < 216 then
          (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)
        else
          False.elim (by have hN : n + 1 < 252 := lt_of_lt_of_eq hn (show cfg0.N = 252 from N_0); omega)

/-- `outsAt0` at a point of case A: that case's contents. -/
theorem outsAt0_A (c : Dev nD) (t : Fin cfg0.N) (h0 : t.val % 36 = 0) (h1 : ¬36 ≤ t.val) (h2 : ¬36 ≤ t.val) (h3 : t.val < 216) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans ((dif_neg h2).trans ((dif_pos h3).trans rfl)))

/-- `outsAt0` at a point of case B: that case's contents, over what the point before left. -/
theorem outsAt0_B (c : Dev nD) (t : Fin cfg0.N) (h0 : ¬t.val % 36 = 0) (h2 : ¬36 ≤ t.val) (h3 : t.val < 216) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans ((dif_pos h3).trans rfl))

/-- `outsAt0` at a point of case C: that case's contents, over what the point before left. -/
theorem outsAt0_C (c : Dev nD) (t : Fin cfg0.N) (h0 : t.val % 36 = 0) (h1 : 36 ≤ t.val) (h2 : 36 ≤ t.val) (h3 : t.val < 216) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h1); exact by omega)
  | succ n => exact (dif_pos h0).trans ((dif_pos h1).trans ((dif_pos h2).trans ((dif_pos h3).trans rfl)))

/-- `outsAt0` at a point of case D: that case's contents, over what the point before left. -/
theorem outsAt0_D (c : Dev nD) (t : Fin cfg0.N) (h0 : ¬t.val % 36 = 0) (h2 : 36 ≤ t.val) (h3 : t.val < 216) :
    outsAt0 m c t.val t.isLt = (sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans ((dif_pos h3).trans rfl))

/-- `outsAt0` at a point of case E: that case's contents, over what the point before left. -/
theorem outsAt0_E (c : Dev nD) (t : Fin cfg0.N) (h0 : t.val % 36 = 0) (h1 : 36 ≤ t.val) (h2 : 36 ≤ t.val) (h3 : ¬t.val < 216) :
    outsAt0 m c t.val t.isLt = (sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h1); exact by omega)
  | succ n => exact (dif_pos h0).trans ((dif_pos h1).trans ((dif_pos h2).trans ((dif_neg h3).trans rfl)))

/-- `outsAt0` at a point of case F: that case's contents, over what the point before left. -/
theorem outsAt0_F (c : Dev nD) (t : Fin cfg0.N) (h0 : ¬t.val % 36 = 0) (h2 : 36 ≤ t.val) (h3 : ¬t.val < 216) :
    outsAt0 m c t.val t.isLt = (sout0_F_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_F_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans ((dif_neg h3).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ (∃ d, owns (c : Thread nD τ) scM0_2 fullShare d) ∗ owns (c : Thread nD τ) scM0_3 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ (∃ d, owns (c : Thread nD τ) scM0_2 fullShare d) ∗ owns (c : Thread nD τ) scM0_3 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ (∃ d, owns (c : Thread nD τ) scM0_2 fullShare d) ∗ owns (c : Thread nD τ) scM0_3 fullShare ((outsAt0 m c (n - 1) (by omega)).2)) ∗ (∃ r, prngReg c r)) := by
  cases n with
  | zero => exact absurd rfl hz
  | succ n => rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 252 := lt_of_lt_of_eq t.isLt (show cfg0.N = 252 from N_0)
  by_cases h0 : t.val % 36 = 0
  · by_cases h1 : 36 ≤ t.val
    · by_cases h2 : 36 ≤ t.val
      · by_cases h3 : t.val < 216
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 252 := lt_of_lt_of_eq t.isLt (show cfg0.N = 252 from N_0); omega
          · rw [PhiS_castSucc m c t, PhiS_pos m c _ _ hz]
            rw [outsAt0_C m c t h0 h1 h2 h3]
            unfold sout0_C_1 sout0_C_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_C c (grid0.coords t) _ _ _ _ _ _ _ _ _ _ _ _ _ _ _ _ _ _ _ _ _ _ _ _ ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexists _; iexact HS1
            isplitl [HS2]; · iexact HS2
            isplitl [HS3]; · iexact HS3
            iintro ⟨H0, H1, H2, H3, H4, H5, H6, H7, HS0, ⟨%es1, HS1⟩, HS2, ⟨%es3, HS3⟩⟩
            isplitl [HS0 HS1 HS2 HS3 Hg]
            · isplitl [HS0 HS1 HS2 HS3]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _)
                isplitl [HS2]
                · iexact HS2
                unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 252 := lt_of_lt_of_eq t.isLt (show cfg0.N = 252 from N_0); omega
          · rw [PhiS_castSucc m c t, PhiS_pos m c _ _ hz]
            rw [outsAt0_E m c t h0 h1 h2 h3]
            unfold sout0_E_1 sout0_E_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_E c (grid0.coords t) _ _ _ _ _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexists _; iexact HS1
            isplitl [HS2]; · iexact HS2
            isplitl [HS3]; · iexact HS3
            iintro ⟨H0, H1, H2, H3, H4, H5, H6, H7, HS0, ⟨%es1, HS1⟩, HS2, ⟨%es3, HS3⟩⟩
            isplitl [HS0 HS1 HS2 HS3 Hg]
            · isplitl [HS0 HS1 HS2 HS3]
              · isplitl [HS0]
                · iexact HS0
                isplitl [HS1]
                · unfold owns; iexists _; isplitr
                  swap; · iexact HS1
                  ipureintro; exact View.read_writes_of_cover _ _ _ _ _ (scover0_E_1 c _ _ _ _ _ _ _ _ _ _ _ _ _ _ _ _ _ _ _ _ _ _ _ _ _ _ _ _ _ _ _ _ _ _ _ _)
                isplitl [HS2]
                · iexact HS2
                unfold owns; iexists _; isplitr
                swap; · iexact HS3
                ipureintro; exact View.read_writes_of_cover _ _ _ _ _ (scover0_E_3 c _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
      · exfalso; omega
    · by_cases h2 : 36 ≤ t.val
      · exfalso; omega
      · by_cases h3 : t.val < 216
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · rw [PhiS_castSucc m c t, PhiS_zero m c _ _ hz, PhiA0_eq]
            rw [outsAt0_A m c t h0 h1 h2 h3]
            unfold sout0_A_1 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, HS0, ⟨%es1, HS1⟩, HS2, ⟨%es3, HS3⟩⟩
            isplitl [HS0 HS1 HS2 HS3 Hg]
            · isplitl [HS0 HS1 HS2 HS3]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _)
                isplitl [HS2]
                · iexact HS2
                unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
          · exfalso; have hN : t.val < 252 := lt_of_lt_of_eq t.isLt (show cfg0.N = 252 from N_0); omega
        · exfalso; omega
  · by_cases h2 : 36 ≤ t.val
    · by_cases h3 : t.val < 216
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        by_cases hz : t.val = 0
        · exfalso; have hN : t.val < 252 := lt_of_lt_of_eq t.isLt (show cfg0.N = 252 from N_0); omega
        · rw [PhiS_castSucc m c t, PhiS_pos m c _ _ hz]
          rw [outsAt0_D m c t h0 h2 h3]
          unfold sout0_D_1 sout0_D_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_D c (grid0.coords t) _ _ _ _ _ _ _ _ _ _ _ _ _ _ _ _ _ _ _ _ _ _ _ _ (fun h => h0 ((hcond0_0 t).mp h)) ((hcond0_2 t).mpr h2) ((hcond0_3 t).mpr h3) (iblk m c 0 t) (iblk m c 1 t) (iblk m c 2 t) (iblk m c 3 t) (iblk m c 4 t) (iblk m c 5 t) _ _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, ⟨%es3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              unfold owns; iexists _; isplitr
              swap; · iexact HS3
              ipureintro; exact View.read_writes_of_cover _ _ _ _ _ (scover0_D_3 c _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        by_cases hz : t.val = 0
        · exfalso; have hN : t.val < 252 := lt_of_lt_of_eq t.isLt (show cfg0.N = 252 from N_0); omega
        · rw [PhiS_castSucc m c t, PhiS_pos m c _ _ hz]
          rw [outsAt0_F m c t h0 h2 h3]
          unfold sout0_F_1 sout0_F_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_F c (grid0.coords t) _ _ _ _ _ _ _ _ _ _ _ _ _ _ _ _ _ _ _ _ _ _ _ _ (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) _ _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, HS3⟩
          isplitl [HS0 HS1 HS2 HS3 Hg]
          · isplitl [HS0 HS1 HS2 HS3]
            · isplitl [HS0]
              · iexact HS0
              isplitl [HS1]
              · iexact HS1
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
    · by_cases h3 : t.val < 216
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        by_cases hz : t.val = 0
        · exfalso; have hN : t.val < 252 := lt_of_lt_of_eq t.isLt (show cfg0.N = 252 from N_0); omega
        · rw [PhiS_castSucc m c t, PhiS_pos m c _ _ hz]
          rw [outsAt0_B m c t h0 h2 h3]
          unfold sout0_B_1 sout0_B_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ _ _ _ _ _ _ (fun h => h0 ((hcond0_0 t).mp h)) (fun h => h2 ((hcond0_2 t).mp h)) ((hcond0_3 t).mpr h3) (iblk m c 0 t) (iblk m c 1 t) (iblk m c 2 t) (iblk m c 3 t) (iblk m c 4 t) (iblk m c 5 t) _ _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, H7, HS0, HS1, HS2, ⟨%es3, HS3⟩⟩
          isplitl [HS0 HS1 HS2 HS3 Hg]
          · isplitl [HS0 HS1 HS2 HS3]
            · isplitl [HS0]
              · iexact HS0
              isplitl [HS1]
              · iexact HS1
              isplitl [HS2]
              · iexact HS2
              unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 252 := N_0; omega)

/-! ## The run and the frame -/

-- `θ_run_frame_around_T_track_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The argument arrays end unchanged, from the run with the two outputs forgotten. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 3 rfl).trans ((hA c 3).trans (V_main_arg2 m c)),
      ((h c).2 main_arg3 (Finset.mem_sdiff.mpr ⟨Pipeline.mem_restRefs_of main_arg3 (by decide) (by decide), by decide⟩)).trans (V_main_arg3 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.KPoints.lean ====
/- The grid points of the kernel at the idealized instance: where each of the body's four conditions holds, the
   staging memrefs the body gets at a point, and the invariant of the launch kit with the scratch as memrefs. -/
module

public import proofs.«01_k».proof.Proof.Gen.KernelIdeal.Frame
public import proofs.«01_k».proof.Proof.Gen.KernelIdeal.Skeleton

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 36) — by arithmetic of the point. -/
theorem hcond0_0 : ∀ t : Fin cfg0.N, cond0_0 (grid0.coords t) ↔ t.val % 36 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 1 % 36 := Pipeline.Grid.coords_val t 1 (by decide) rfl
    simp only [cond0_0, k0_cond1, e0, e1]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the points from point 36 on — decided over the grid. -/
theorem hcond0_1 : ∀ t : Fin cfg0.N, cond0_1 (grid0.coords t) ↔ 36 ≤ t.val :=
  (by decide +kernel : ∀ t : Fin grid0.N, cond0_1 (grid0.coords t) ↔ 36 ≤ t.val)

/-- The condition of the body's `scf.if` 2 (`k0_h3`), from the grid coordinates (the skeleton's scalar
    chain substituted). -/
abbrev cond0_2 (i : grid0.Coords) : Prop := k0_cond3 i = 1#1
/-- It holds at the points from point 36 on — decided over the grid. -/
theorem hcond0_2 : ∀ t : Fin cfg0.N, cond0_2 (grid0.coords t) ↔ 36 ≤ t.val :=
  (by decide +kernel : ∀ t : Fin grid0.N, cond0_2 (grid0.coords t) ↔ 36 ≤ t.val)

/-- The condition of the body's `scf.if` 3 (`k0_h4`), from the grid coordinates (the skeleton's scalar
    chain substituted). -/
abbrev cond0_3 (i : grid0.Coords) : Prop := k0_cond4 i = 1#1
/-- It holds at the points before point 216 — decided over the grid. -/
theorem hcond0_3 : ∀ t : Fin cfg0.N, cond0_3 (grid0.coords t) ↔ t.val < 216 :=
  (by decide +kernel : ∀ t : Fin grid0.N, cond0_3 (grid0.coords t) ↔ t.val < 216)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x9216 .f32 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Own

end
-- ==== Proof.KRunA.lean ====
/- The kernel's whole body at one kind of grid point — the first point: the scales are spread, the maxima start at zero, a tile is computed — with every buffer
   it is given at a named content: the pieces its stores leave in each buffer they reach, and the body's triple. -/
module

public import proofs.«01_k».proof.Proof.KPoints

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- The body's run at the first point: the scales are spread, the maxima start at zero, a tile is computed. -/
noncomputable def runA (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (o6 : Vec F S1024x256 .fp8e4m3) (o7 : Vec F S1x8x128 .f32) (y : Vec F S1024x9216 .f32) (x : Vec F S1024x128 .f32) (v : Vec F S1024x128 .f32) (a : Vec F S1024x128 .f32) :
    Σ' (L10 : List (View.Piece (Elt F) S1024x9216 .f32)) (L11 : List (View.Piece (Elt F) S1024x128 .f32)), { L13 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (o6) ∗ owns (c : Thread nD τ) arg9 fullShare (o7) ∗ owns (c : Thread nD τ) arg10 fullShare (arg10.view.read (Elt F) (arg10.view.writes (Elt F) (harg10.unread y) L10)) ∗ owns (c : Thread nD τ) arg11 fullShare (arg11.view.read (Elt F) (arg11.view.writes (Elt F) (harg11.unread x) L11)) ∗ owns (c : Thread nD τ) arg12 fullShare (v) ∗ owns (c : Thread nD τ) arg13 fullShare (arg13.view.read (Elt F) (arg13.view.writes (Elt F) (harg13.unread a) L13))) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?L10, ?L11, ?L13, fun E K => ?run⟩
  case run =>
    simp only [cc0_swiglu_fp8_eq_skeleton]; unfold cc0_swiglu_fp8_skel
    simp only [k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1 | sl_exact hc2 | sl_exact hc3)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists (arg10.view.writes (Elt F) (harg10.unread y) ?L10); isplitr; swap; · iexact H10
      ipureintro; rfl
    isplitl [H11]
    · iexists (arg11.view.writes (Elt F) (harg11.unread x) ?L11); isplitr; swap; · iexact H11
      ipureintro; rfl
    isplitl [H12]
    · iexists _; isplitr; swap; · iexact H12
      ipureintro; exact harg12.read_unread _
    iexists (arg13.view.writes (Elt F) (harg13.unread a) ?L13); isplitr; swap; · iexact H13
    ipureintro; rfl

end Cert.KernelIdeal.Own

end
-- ==== Proof.Exponent.lean ====
/- The scalar mathematics the two programs share, over the extended reals: the words whose exponent field is counted
   up by powers of two, the exponent of a nonnegative number found by binary search over those words and found by
   comparing with every power of two, and the two spellings of `silu`. -/
module

public import Idealize.ShloMosaic.PureOps.Ideal
public import Idealize.ShloMosaic.PureOps.Ideal.Laws

@[expose] public section

noncomputable section

namespace Cert.Exponent

open Idealize.ShloMosaic

/-! ## Words with only an exponent field -/

/-- The f32 whose word is `q` shifted to the exponent field. -/
def word (q : BitVec 32) : EReal := Ideal.ofBits .f32 (IntOp.shli .vector q 23#32)

theorem word_fields : ∀ q : Fin 256,
    ((IntOp.shli .vector (BitVec.ofNat 32 q.val) 23#32).extractLsb' 31 1 == 1#1) = false
    ∧ ((IntOp.shli .vector (BitVec.ofNat 32 q.val) 23#32).extractLsb' 23 8).toNat = q.val
    ∧ ((IntOp.shli .vector (BitVec.ofNat 32 q.val) 23#32).extractLsb' 0 23).toNat = 0 := by
  decide +kernel

theorem word_zero : word (BitVec.ofNat 32 0) = 0 := by
  obtain ⟨h1, h2, h3⟩ := word_fields 0
  simp only [Fin.val_zero] at h1 h2 h3
  unfold word Ideal.ofBits Ideal.ieee
  simp only [h1, h2, h3]
  norm_num

theorem word_top : word (BitVec.ofNat 32 255) = ⊤ := by
  obtain ⟨h1, h2, h3⟩ := word_fields 255
  unfold word Ideal.ofBits Ideal.ieee
  rw [show ((255 : Fin 256).val) = 255 from rfl] at h1 h2 h3
  simp only [h1, h2, h3]
  norm_num

theorem word_pow (q : ℕ) (h1 : 1 ≤ q) (h2 : q ≤ 254) :
    word (BitVec.ofNat 32 q) = (((2 : ℝ) ^ ((q : ℤ) - 127) : ℝ) : EReal) := by
  obtain ⟨a, b, c⟩ := word_fields ⟨q, by omega⟩
  dsimp only at a b c
  unfold word Ideal.ofBits Ideal.ieee
  simp only [a, b, c]
  have e1 : ¬ q = 2 ^ 8 - 1 := by omega
  have e2 : ¬ q = 0 := by omega
  rw [if_neg e1, if_neg e2]
  refine congrArg Real.toEReal ?_
  have e3 : ((2 : ℤ) ^ (8 - 1) - 1) = 127 := by norm_num
  have e4 : (((2 ^ 23 + 0 : ℕ)) : ℝ) = (2 : ℝ) ^ (23 : ℤ) := by norm_num
  rw [e3, e4, if_neg Bool.false_ne_true, one_mul, ← zpow_add₀ (by norm_num)]
  exact congrArg _ (by push_cast; ring)

/-! ## The exponent field by binary search -/

/-- One step of the search: add `b` where the word stays at most `f`. -/
def step (f : EReal) (q b : BitVec 32) : BitVec 32 :=
  if word (IntOp.addi q b) ≤ f then IntOp.addi q b else q

/-- The exponent field of `f`: the greatest `q` whose word is at most `f`, by halving. -/
def field (f : EReal) : BitVec 32 :=
  step f (step f (step f (step f (step f (step f (step f (step f 0#32 128#32) 64#32) 32#32) 16#32) 8#32) 4#32) 2#32) 1#32

/-- What the search keeps: the field lies in `[q, q + w)`. -/
def Inv (f : EReal) (w : ℕ) (b : BitVec 32) : Prop :=
  ∃ q : ℕ, b = BitVec.ofNat 32 q ∧ q + w ≤ 256 ∧ word (BitVec.ofNat 32 q) ≤ f
    ∧ (q + w = 256 ∨ f < word (BitVec.ofNat 32 (q + w)))

theorem Inv.step {f : EReal} {w : ℕ} {b : BitVec 32} (h : Inv f (w + w) b) (c : BitVec 32) (hc : c = BitVec.ofNat 32 w) :
    Inv f w (step f b c) := by
  obtain ⟨q, rfl, hq, hl, hr⟩ := h
  subst hc
  have e : IntOp.addi (BitVec.ofNat 32 q) (BitVec.ofNat 32 w) = BitVec.ofNat 32 (q + w) :=
    (BitVec.ofNat_add ..).symm
  unfold Exponent.step
  rw [e]
  split
  · next hle => exact ⟨q + w, rfl, by omega, hle, by rw [Nat.add_assoc]; exact hr⟩
  · next hle => exact ⟨q, rfl, by omega, hl, .inr (not_le.mp hle)⟩

theorem field_spec {f : EReal} (h : 0 ≤ f) : Inv f 1 (field f) := by
  have h0 : Inv f (128 + 128) 0#32 := ⟨0, rfl, by omega, by rw [word_zero]; exact h, .inl (by omega)⟩
  unfold field
  exact Inv.step (w := 1) (Inv.step (w := 2) (Inv.step (w := 4) (Inv.step (w := 8) (Inv.step (w := 16) (Inv.step (w := 32)
    (Inv.step (w := 64) (Inv.step (w := 128) h0 _ rfl) _ rfl) _ rfl) _ rfl) _ rfl) _ rfl) _ rfl) _ rfl

/-! ## The exponent of a positive real, within the range of f32 -/

/-- `e` is the exponent of `v`: `2 ^ (e - 1) ≤ v < 2 ^ e`, clamped to `[-149, 128]`. -/
def IsExp (v : ℝ) (e : ℤ) : Prop :=
  -149 ≤ e ∧ e ≤ 128 ∧ (e = -149 ∨ (2 : ℝ) ^ (e - 1) ≤ v) ∧ (e = 128 ∨ v < (2 : ℝ) ^ e)

theorem IsExp.unique {v : ℝ} {e e' : ℤ} (h : IsExp v e) (h' : IsExp v e') : e = e' := by
  have key : ∀ {a b : ℤ}, IsExp v a → IsExp v b → ¬ a < b := by
    intro a b ha hb hab
    have h1 : v < (2 : ℝ) ^ a := ha.2.2.2.resolve_left (by have := hb.2.1; omega)
    have h2 : (2 : ℝ) ^ (b - 1) ≤ v := hb.2.2.1.resolve_left (by have := ha.1; omega)
    have h3 : (2 : ℝ) ^ a ≤ (2 : ℝ) ^ (b - 1) := zpow_le_zpow_right₀ (by norm_num) (by omega)
    exact absurd (h1.trans_le (h3.trans h2)) (lt_irrefl _)
  have := key h h'
  have := key h' h
  omega

/-- The constant `2 ^ -126`, the least normal f32. -/
theorem lit_tiny : Ideal.ofBits .f32 8388608#32 = (((2 : ℝ) ^ (-126 : ℤ) : ℝ) : EReal) := by
  have := word_pow 1 (by omega) (by omega)
  rw [show word (BitVec.ofNat 32 1) = Ideal.ofBits .f32 8388608#32 from by unfold word; congr 1] at this
  rw [this]; norm_num

theorem lit_scale : Ideal.ofBits .f32 1258291200#32 = (((2 : ℝ) ^ (23 : ℤ) : ℝ) : EReal) := by
  have := word_pow 150 (by omega) (by omega)
  rw [show word (BitVec.ofNat 32 150) = Ideal.ofBits .f32 1258291200#32 from by unfold word; congr 1] at this
  rw [this]; norm_num

theorem lit_top : Ideal.ofBits .f32 2139095040#32 = ⊤ := by
  rw [show Ideal.ofBits .f32 2139095040#32 = word (BitVec.ofNat 32 255) from by unfold word; congr 1]
  exact word_top

theorem lit_bot : Ideal.ofBits .f32 4286578688#32 = ⊥ := by
  simp [Ideal.ofBits, Ideal.ieee]

/-- The kernel's exponent: the field of `v`, or of `v * 2 ^ 23` below the normal numbers, less the bias. -/
def kExp (v : EReal) : BitVec 32 :=
  Scalar.select
    (IntOp.ori (BitVec.ofBool (decide (v = 0)))
      (IntOp.xori (BitVec.ofBool (decide (v < Ideal.ofBits .f32 2139095040#32))) 1#1))
    0#32
    (IntOp.subi
      (IntOp.subi (field (if v < Ideal.ofBits .f32 8388608#32 then v * Ideal.ofBits .f32 1258291200#32 else v)) 126#32)
      (Scalar.select (BitVec.ofBool (decide (v < Ideal.ofBits .f32 8388608#32))) 23#32 0#32))

/-- The reference's exponent: the greatest of `k + 1` over the powers `2 ^ k` that are at most `v`. -/
def rExp (v : EReal) : BitVec 32 :=
  Scalar.select
    (IntOp.ori (BitVec.ofBool (decide (v = 0))) (BitVec.ofBool (decide (v = Ideal.ofBits .f32 2139095040#32))))
    0#32
    (Finset.fold IntOp.maxsi (2147483648#32)
      (fun k : Fin 277 =>
        if FloatOps.exp2 (F := Ideal) (φ := .f32) (FloatOps.sitofp .f32 (IntOp.subi (BitVec.ofNat 32 k.val) 149#32)) ≤ v then
          IntOp.addi (IntOp.subi (BitVec.ofNat 32 k.val) 149#32) 1#32
        else 4294967147#32)
      Finset.univ)

theorem select_ofBool {α : Type} (p : Prop) [Decidable p] (a b : α) :
    Scalar.select (BitVec.ofBool (decide p)) a b = if p then a else b := by
  unfold Scalar.select
  by_cases h : p <;> simp [h]

theorem special_kernel (v : EReal) {α : Type} (a b : α) :
    Scalar.select (IntOp.ori (BitVec.ofBool (decide (v = 0)))
      (IntOp.xori (BitVec.ofBool (decide (v < ⊤))) 1#1)) a b = if v = 0 ∨ v = ⊤ then a else b := by
  unfold Scalar.select IntOp.ori IntOp.xori
  by_cases h : v = 0
  · simp [h]
  · by_cases h' : v = ⊤
    · simp [h']
    · simp [h, h', lt_top_iff_ne_top]

theorem special_ref (v : EReal) {α : Type} (a b : α) :
    Scalar.select (IntOp.ori (BitVec.ofBool (decide (v = 0))) (BitVec.ofBool (decide (v = ⊤)))) a b
      = if v = 0 ∨ v = ⊤ then a else b := by
  unfold Scalar.select IntOp.ori
  by_cases h : v = 0
  · simp [h]
  · by_cases h' : v = ⊤
    · simp [h']
    · simp [h, h']

theorem word_lt_iff {q : ℕ} (h1 : 1 ≤ q) (h2 : q ≤ 254) (x : ℝ) :
    ((x : EReal) < word (BitVec.ofNat 32 q)) ↔ x < (2 : ℝ) ^ ((q : ℤ) - 127) := by
  rw [word_pow q h1 h2, EReal.coe_lt_coe_iff]

theorem word_le_iff {q : ℕ} (h1 : 1 ≤ q) (h2 : q ≤ 254) (x : ℝ) :
    (word (BitVec.ofNat 32 q) ≤ (x : EReal)) ↔ (2 : ℝ) ^ ((q : ℤ) - 127) ≤ x := by
  rw [word_pow q h1 h2, EReal.coe_le_coe_iff]

/-- The field of a finite nonnegative number is at most 254, so it is an exponent. -/
theorem field_real {x : ℝ} (h : 0 ≤ x) : ∃ q : ℕ, field (x : EReal) = BitVec.ofNat 32 q ∧ q ≤ 254
    ∧ (q = 0 ∨ (2 : ℝ) ^ ((q : ℤ) - 127) ≤ x) ∧ (q = 254 ∨ x < (2 : ℝ) ^ ((q : ℤ) - 126)) := by
  obtain ⟨q, hb, hq, hl, hr⟩ := field_spec (f := (x : EReal)) (by exact_mod_cast h)
  have hq' : q ≤ 254 := by
    by_contra hc
    have : q = 255 := by omega
    subst this
    rw [word_top] at hl
    exact absurd hl (by simp)
  refine ⟨q, hb, hq', ?_, ?_⟩
  · rcases Nat.eq_zero_or_pos q with h0 | h0
    · exact .inl h0
    · exact .inr ((word_le_iff h0 hq' x).mp hl)
  · rcases Nat.lt_or_ge q 254 with h0 | h0
    · right
      have := hr.resolve_left (by omega)
      have := (word_lt_iff (q := q + 1) (by omega) (by omega) x).mp this
      rwa [show ((q + 1 : ℕ) : ℤ) - 127 = (q : ℤ) - 126 from by push_cast; ring] at this
    · exact .inl (by omega)

theorem ofInt_sub (x y : ℤ) : BitVec.ofInt 32 (x - y) = BitVec.ofInt 32 x - BitVec.ofInt 32 y := by
  rw [Int.sub_eq_add_neg, BitVec.ofInt_add, BitVec.ofInt_neg, ← BitVec.sub_eq_add_neg]

theorem ofNat_sub_ofInt (q n : ℕ) : IntOp.subi (BitVec.ofNat 32 q) (BitVec.ofNat 32 n) = BitVec.ofInt 32 ((q : ℤ) - n) := by
  unfold IntOp.subi
  rw [ofInt_sub]
  simp

theorem ofInt_sub_ofNat (z : ℤ) (n : ℕ) : IntOp.subi (BitVec.ofInt 32 z) (BitVec.ofNat 32 n) = BitVec.ofInt 32 (z - n) := by
  unfold IntOp.subi
  rw [ofInt_sub]
  simp

theorem kExp_spec {x : ℝ} (h : 0 < x) : ∃ e : ℤ, kExp (x : EReal) = BitVec.ofInt 32 e ∧ IsExp x e := by
  have hs : ¬ ((x : EReal) = 0 ∨ (x : EReal) = ⊤) := by
    rintro (h0 | h0)
    · exact h.ne' (by exact_mod_cast h0)
    · exact absurd h0 (by simp)
  unfold kExp
  rw [lit_top, special_kernel, if_neg hs, select_ofBool, lit_tiny, lit_scale]
  simp only [EReal.coe_lt_coe_iff, ← EReal.coe_mul]
  by_cases ht : x < (2 : ℝ) ^ (-126 : ℤ)
  · rw [if_pos ht, if_pos ht]
    obtain ⟨q, hf, hq, hl, hr⟩ := field_real (x := x * (2 : ℝ) ^ (23 : ℤ)) (by positivity)
    have mul_lt : ∀ {z : ℤ}, x * (2 : ℝ) ^ (23 : ℤ) < (2 : ℝ) ^ z ↔ x < (2 : ℝ) ^ (z - 23) := by
      intro z
      rw [zpow_sub₀ (by norm_num), lt_div_iff₀ (by positivity)]
    have le_mul : ∀ {z : ℤ}, (2 : ℝ) ^ z ≤ x * (2 : ℝ) ^ (23 : ℤ) ↔ (2 : ℝ) ^ (z - 23) ≤ x := by
      intro z
      rw [zpow_sub₀ (by norm_num), div_le_iff₀ (by positivity)]
    refine ⟨(q : ℤ) - 126 - 23, ?_, by omega, by omega, ?_, ?_⟩
    · rw [hf, ofNat_sub_ofInt, ofInt_sub_ofNat]; rfl
    · rcases hl with h0 | h0
      · left; omega
      · right
        have := le_mul.mp h0
        rwa [show (q : ℤ) - 127 - 23 = (q : ℤ) - 126 - 23 - 1 from by ring] at this
    · right
      rcases hr with h0 | h0
      · refine ht.trans_le (zpow_le_zpow_right₀ (by norm_num) (by omega))
      · exact mul_lt.mp h0
  · rw [if_neg ht, if_neg ht]
    obtain ⟨q, hf, hq, hl, hr⟩ := field_real h.le
    refine ⟨(q : ℤ) - 126, ?_, by omega, by omega, ?_, ?_⟩
    · rw [hf, ofNat_sub_ofInt, show (0#32 : BitVec 32) = BitVec.ofNat 32 0 from rfl, ofInt_sub_ofNat]; simp
    · right
      rcases hl with h0 | h0
      · subst h0
        refine le_trans (zpow_le_zpow_right₀ (by norm_num) (by omega)) (not_lt.mp ht)
      · rwa [show (q : ℤ) - 127 = (q : ℤ) - 126 - 1 from by ring] at h0
    · rcases hr with h0 | h0
      · left; omega
      · exact .inr h0

theorem toInt_maxsi (x y : BitVec 32) : (IntOp.maxsi x y).toInt = max x.toInt y.toInt := by
  unfold IntOp.maxsi
  rw [BitVec.slt_eq_decide]
  by_cases h : y.toInt < x.toInt
  · simp [h, h.le]
  · simp [h, not_lt.mp h]

theorem toInt_fold (g : Fin 277 → BitVec 32) (b : BitVec 32) :
    (Finset.fold IntOp.maxsi b g Finset.univ).toInt = Finset.fold max b.toInt (fun k => (g k).toInt) Finset.univ :=
  (Finset.fold_hom (op := IntOp.maxsi) (op' := (max : ℤ → ℤ → ℤ)) (m := BitVec.toInt)
    (fun x y => toInt_maxsi x y)).symm

theorem toInt_k (k : Fin 277) : (IntOp.subi (BitVec.ofNat 32 k.val) 149#32).toInt = (k.val : ℤ) - 149 := by
  have : ∀ k : Fin 277, (IntOp.subi (BitVec.ofNat 32 k.val) 149#32).toInt = (k.val : ℤ) - 149 := by decide +kernel
  exact this k

theorem toInt_k1 (k : Fin 277) :
    (IntOp.addi (IntOp.subi (BitVec.ofNat 32 k.val) 149#32) 1#32).toInt = (k.val : ℤ) - 148 := by
  have : ∀ k : Fin 277, (IntOp.addi (IntOp.subi (BitVec.ofNat 32 k.val) 149#32) 1#32).toInt = (k.val : ℤ) - 148 := by
    decide +kernel
  exact this k

theorem exp2_int (z : ℤ) : Ideal.exp2 (((z : ℝ) : EReal)) = (((2 : ℝ) ^ z : ℝ) : EReal) := by
  show ((Real.rpow 2 (z : ℝ) : ℝ) : EReal) = _
  congr 1
  exact Real.rpow_intCast 2 z

theorem exp2_word (b : BitVec 32) :
    FloatOps.exp2 (F := Ideal) (φ := .f32) (FloatOps.sitofp .f32 b) = (((2 : ℝ) ^ b.toInt : ℝ) : EReal) :=
  exp2_int b.toInt

theorem rExp_spec {x : ℝ} (h : 0 < x) : ∃ e : ℤ, rExp (x : EReal) = BitVec.ofInt 32 e ∧ IsExp x e := by
  have hs : ¬ ((x : EReal) = 0 ∨ (x : EReal) = ⊤) := by
    rintro (h0 | h0)
    · exact h.ne' (by exact_mod_cast h0)
    · exact absurd h0 (by simp)
  unfold rExp
  rw [lit_top, special_ref, if_neg hs]
  simp only [exp2_word, EReal.coe_le_coe_iff, toInt_k]
  set b : BitVec 32 := Finset.fold IntOp.maxsi (2147483648#32)
      (fun k : Fin 277 => if (2 : ℝ) ^ ((k.val : ℤ) - 149) ≤ x then
          IntOp.addi (IntOp.subi (BitVec.ofNat 32 k.val) 149#32) 1#32 else 4294967147#32) Finset.univ with hb
  have hi : b.toInt = Finset.fold max (-2147483648 : ℤ)
      (fun k : Fin 277 => if (2 : ℝ) ^ ((k.val : ℤ) - 149) ≤ x then (k.val : ℤ) - 148 else -149) Finset.univ := by
    rw [hb, toInt_fold]
    congr 1
    funext k
    split
    · exact toInt_k1 k
    · decide
  refine ⟨b.toInt, (BitVec.ofInt_toInt).symm, ?_⟩
  obtain ⟨k, -, hk⟩ : ∃ k ∈ (Finset.univ : Finset (Fin 277)), b.toInt ≤
      (if (2 : ℝ) ^ ((k.val : ℤ) - 149) ≤ x then (k.val : ℤ) - 148 else -149) := by
    refine ((Finset.le_fold_max b.toInt).mp hi.le).resolve_left ?_
    intro hc
    have h0 : (-149 : ℤ) ≤ b.toInt := by
      rw [hi]
      refine (Finset.le_fold_max _).mpr (.inr ⟨0, Finset.mem_univ _, ?_⟩)
      split
      · simp
      · exact le_rfl
    omega
  have hge : ∀ k : Fin 277, (if (2 : ℝ) ^ ((k.val : ℤ) - 149) ≤ x then (k.val : ℤ) - 148 else -149) ≤ b.toInt := by
    intro k
    rw [hi]
    exact (Finset.le_fold_max _).mpr (.inr ⟨k, Finset.mem_univ _, le_rfl⟩)
  have hlo : (-149 : ℤ) ≤ b.toInt := by
    have := hge 0
    split at this
    · simp at this; omega
    · exact this
  have hk' := k.isLt
  refine ⟨hlo, ?_, ?_, ?_⟩
  · split at hk <;> omega
  · split at hk
    · next hc => exact .inr (le_trans (zpow_le_zpow_right₀ (by norm_num) (by omega)) hc)
    · left; omega
  · by_contra hc
    simp only [not_or, not_lt] at hc
    obtain ⟨h1, h2⟩ := hc
    have hup : b.toInt ≤ 128 := by split at hk <;> omega
    have := hge ⟨(b.toInt + 149).toNat, by omega⟩
    have e : (((b.toInt + 149).toNat : ℕ) : ℤ) = b.toInt + 149 := Int.toNat_of_nonneg (by omega)
    dsimp only at this
    rw [e, show b.toInt + 149 - 149 = b.toInt from by ring, if_pos h2] at this
    omega

/-- The two exponents agree at every nonnegative extended real. -/
theorem kExp_eq_rExp {v : EReal} (h : 0 ≤ v) : kExp v = rExp v := by
  by_cases h0 : v = 0 ∨ v = ⊤
  · unfold kExp rExp
    rw [lit_top, special_kernel, special_ref, if_pos h0, if_pos h0]
  · simp only [not_or] at h0
    induction v with
    | bot => exact absurd h (by simp)
    | top => exact absurd rfl h0.2
    | coe x =>
      have hx : 0 < x := lt_of_le_of_ne (by exact_mod_cast h) (fun hc => h0.1 (by exact_mod_cast hc.symm))
      obtain ⟨e, he, hs⟩ := kExp_spec hx
      obtain ⟨e', he', hs'⟩ := rExp_spec hx
      rw [he, he', hs.unique hs']

theorem rExp_zero : rExp 0 = 0#32 := by
  unfold rExp
  rw [lit_top, special_ref, if_pos (.inl rfl)]

/-! ## A power of two with a given exponent -/

/-- Within the normal exponents, two to the `n` is the float whose exponent field is `n + 127`: the reference's
    spelling with a case split, everywhere equal to the word's float. -/
theorem pow_word (n : BitVec 32) :
    Scalar.select (IntOp.andi (IntOp.cmpi .sge n 4294967170#32) (IntOp.cmpi .sle n 127#32))
      (FloatOps.exp2 (F := Ideal) (φ := .f32) (FloatOps.sitofp .f32 n))
      (Ideal.ofBits .f32 (IntOp.shli .vector (IntOp.addi n 127#32) 23#32)) = word (IntOp.addi n 127#32) := by
  have hc : (IntOp.andi (IntOp.cmpi .sge n 4294967170#32) (IntOp.cmpi .sle n 127#32))
      = BitVec.ofBool (decide (-126 ≤ n.toInt ∧ n.toInt ≤ 127)) := by
    unfold IntOp.andi IntOp.cmpi
    simp only [BitVec.sle_eq_decide]
    rw [show (4294967170#32 : BitVec 32).toInt = -126 from by decide, show (127#32 : BitVec 32).toInt = 127 from by decide]
    by_cases h1 : -126 ≤ n.toInt <;> by_cases h2 : n.toInt ≤ 127 <;> simp [h1, h2]
  rw [hc, select_ofBool]
  split
  · next h =>
    rw [exp2_word]
    obtain ⟨q, hq⟩ : ∃ q : ℕ, (q : ℤ) = n.toInt + 127 := ⟨(n.toInt + 127).toNat, Int.toNat_of_nonneg (by omega)⟩
    have e : IntOp.addi n 127#32 = BitVec.ofNat 32 q := by
      have : n = BitVec.ofInt 32 ((q : ℤ) - 127) := by rw [hq]; simp
      rw [this]
      unfold IntOp.addi
      rw [ofInt_sub]
      simp only [BitVec.ofInt_natCast]
      exact BitVec.sub_add_cancel _ _
    rw [e, word_pow q (by omega) (by omega), hq]
    congr 2
    ring
  · rfl

theorem neg_add_word (e : BitVec 32) : IntOp.addi (IntOp.subi 0#32 e) 127#32 = IntOp.subi 127#32 e := by
  unfold IntOp.addi IntOp.subi
  bv_omega

/-! ## silu -/

theorem exp_nonneg (x : EReal) : 0 ≤ Ideal.exp x := by
  induction x with
  | bot => exact le_rfl
  | top => exact le_top
  | coe r => show (0 : EReal) ≤ ((Real.exp r : ℝ) : EReal); exact_mod_cast (Real.exp_pos r).le

theorem silu (g : EReal) : Ideal.div g (1 + Ideal.exp (0 - g)) = g * Ideal.logistic g := by
  have h : (1 + Ideal.exp (-g)) ≠ 0 := by
    have : (0 : EReal) < 1 + Ideal.exp (-g) := lt_of_lt_of_le one_pos (le_add_of_nonneg_right (exp_nonneg _))
    exact this.ne'
  have e : (0 : EReal) - g = -g := by rw [sub_eq_add_neg, zero_add]
  rw [e]
  unfold Ideal.logistic Ideal.div
  rw [if_neg h, if_neg h, one_mul]

/-! ## Absolute values -/

theorem abs_nonneg (x : EReal) : 0 ≤ max x (-x) := by
  rcases le_total 0 x with h | h
  · exact le_max_of_le_left h
  · exact le_max_of_le_right (by rw [EReal.le_neg]; simpa using h)

end Cert.Exponent

end
-- ==== Proof.KPay.lean ====
/- What the kernel's payloads hold entry by entry over the extended reals: the tile of gated products, the running
   maximum, the quantiser's exponent and its two powers of two, the clipped codes, the spread of a row of scales. -/
module

public import proofs.«01_k».proof.Proof.Gen.KernelIdeal.Skeleton
public import proofs.«01_k».proof.Proof.Exponent
public import Idealize.ShloMosaic.Lib.Pointwise

@[expose] public section

set_option maxRecDepth 16384

noncomputable section

namespace Cert.KernelIdeal.Own

open Cert.KernelIdeal Cert.KernelIdeal.Gen
open Idealize.ShloMosaic

/-- The absolute value as the programs spell it. -/
def mag (x : EReal) : EReal := max x (-x)

/-- The gated product: `silu` of the gate times the up-projection. -/
def gated (g u : EReal) : EReal := Ideal.div g (1 + Ideal.exp (0 - g)) * u

/-- The two copies of the 128-lane scale block side by side. -/
def lane (l : Fin 256) : Fin 128 := ⟨l.val % 128, Nat.mod_lt _ (by omega)⟩

/-- One entry of the tile: row `r` of the activation block against column `l` of the two weight blocks, scaled. -/
def tile (a : Vec Ideal S1024x7168 .fp8e4m3) (b c : Vec Ideal S7168x256 .fp8e4m3) (d : Vec Ideal S1024x128 .f32)
    (e f : Vec Ideal S1x1x256 .f32) (r : Fin 1024) (l : Fin 256) : EReal :=
  gated ((∑ k : Fin 7168, a (ix2 r k) * b (ix2 k l)) * d (ix2 r (lane l)) * e (ix3 0 0 l))
    ((∑ k : Fin 7168, a (ix2 r k) * c (ix2 k l)) * d (ix2 r (lane l)) * f (ix3 0 0 l))

theorem lane_if (d : Fin 128 → EReal) (l : Fin 256) :
    (if h : l.val < 128 then d ⟨l.val, h⟩ else d ⟨l.val - 128, by omega⟩) = d (lane l) := by
  unfold lane
  split
  · next h => exact congrArg d (Fin.ext (Nat.mod_eq_of_lt h).symm)
  · next h => exact congrArg d (Fin.ext (by show l.val - 128 = l.val % 128; omega))

theorem pay34_apply (a : Vec Ideal S256x7168 .fp8e4m3) (b c : Vec Ideal S7168x256 .fp8e4m3) (d : Vec Ideal S256x128 .f32)
    (e f : Vec Ideal S1x1x256 .f32) (r : Fin 256) (l : Fin 256) :
    k0_pay34 a b c d e f (ix2 r l)
      = gated ((∑ k : Fin 7168, a (ix2 r k) * b (ix2 k l)) * d (ix2 r (lane l)) * e (ix3 0 0 l))
        ((∑ k : Fin 7168, a (ix2 r k) * c (ix2 k l)) * d (ix2 r (lane l)) * f (ix3 0 0 l)) := by
  rw [← lane_if (fun j => d (ix2 r j)) l]
  unfold gated k0_pay34 k0_pay33
  pointwise

theorem pay33_apply (a : Vec Ideal S256x7168 .fp8e4m3) (b c : Vec Ideal S7168x256 .fp8e4m3) (d : Vec Ideal S256x128 .f32)
    (e f : Vec Ideal S1x1x256 .f32) (r : Fin 256) (l : Fin 256) :
    k0_pay33 a b c d e f (ix2 r l)
      = gated ((∑ k : Fin 7168, a (ix2 r k) * b (ix2 k l)) * d (ix2 r (lane l)) * e (ix3 0 0 l))
        ((∑ k : Fin 7168, a (ix2 r k) * c (ix2 k l)) * d (ix2 r (lane l)) * f (ix3 0 0 l)) := by
  rw [← lane_if (fun j => d (ix2 r j)) l]
  unfold gated k0_pay33
  pointwise

/-- A block of 256 rows of the tile, its operands the matching rows of the whole blocks. -/
theorem pay34_rows (A : Vec Ideal S1024x7168 .fp8e4m3) (X : Vec Ideal S1024x128 .f32) (o : ℕ) (ho : o + 256 ≤ 1024)
    (a : Vec Ideal S256x7168 .fp8e4m3) (b c : Vec Ideal S7168x256 .fp8e4m3) (d : Vec Ideal S256x128 .f32)
    (e f : Vec Ideal S1x1x256 .f32) (ha : ∀ (r : Fin 256) k, a (ix2 r k) = A (ix2 ⟨o + r.val, by omega⟩ k))
    (hd : ∀ (r : Fin 256) k, d (ix2 r k) = X (ix2 ⟨o + r.val, by omega⟩ k)) (r : Fin 256) (l : Fin 256) :
    k0_pay34 a b c d e f (ix2 r l) = tile A b c X e f ⟨o + r.val, by omega⟩ l := by
  rw [pay34_apply]
  unfold tile
  simp only [ha, hd]

/-- The running maximum of a block of 256 rows after the tile. -/
theorem pay36_apply (a : Vec Ideal S256x7168 .fp8e4m3) (b c : Vec Ideal S7168x256 .fp8e4m3) (d : Vec Ideal S256x128 .f32)
    (e f : Vec Ideal S1x1x256 .f32) (g : Vec Ideal S256x128 .f32) (r : Fin 256) (l : Fin 128) :
    k0_pay36 (k0_pay35 a b c d e f g) (ix2 r l)
      = max (g (ix2 r l)) (max (mag (k0_pay33 a b c d e f (ix2 r ⟨l.val, by omega⟩)))
          (mag (k0_pay33 a b c d e f (ix2 r ⟨128 + l.val, by omega⟩)))) := by
  unfold mag k0_pay36 k0_pay35
  pointwise
  rfl

theorem pay36_rows (A : Vec Ideal S1024x7168 .fp8e4m3) (X M : Vec Ideal S1024x128 .f32) (o : ℕ) (ho : o + 256 ≤ 1024)
    (a : Vec Ideal S256x7168 .fp8e4m3) (b c : Vec Ideal S7168x256 .fp8e4m3) (d : Vec Ideal S256x128 .f32)
    (e f : Vec Ideal S1x1x256 .f32) (g : Vec Ideal S256x128 .f32)
    (ha : ∀ (r : Fin 256) k, a (ix2 r k) = A (ix2 ⟨o + r.val, by omega⟩ k))
    (hd : ∀ (r : Fin 256) k, d (ix2 r k) = X (ix2 ⟨o + r.val, by omega⟩ k))
    (hg : ∀ (r : Fin 256) k, g (ix2 r k) = M (ix2 ⟨o + r.val, by omega⟩ k)) (r : Fin 256) (l : Fin 128) :
    k0_pay36 (k0_pay35 a b c d e f g) (ix2 r l)
      = max (M (ix2 ⟨o + r.val, by omega⟩ l)) (max (mag (tile A b c X e f ⟨o + r.val, by omega⟩ ⟨l.val, by omega⟩))
          (mag (tile A b c X e f ⟨o + r.val, by omega⟩ ⟨128 + l.val, by omega⟩))) := by
  rw [pay36_apply, pay33_apply, pay33_apply]
  unfold tile
  simp only [ha, hd, hg]

/-! ## The other three copies of the tile's payloads are the first one -/

theorem pay38_eq : @k0_pay38 Ideal _ = @k0_pay34 Ideal _ := rfl
theorem pay42_eq : @k0_pay42 Ideal _ = @k0_pay34 Ideal _ := rfl
theorem pay46_eq : @k0_pay46 Ideal _ = @k0_pay34 Ideal _ := rfl
theorem pay40_eq (a : Vec Ideal S256x7168 .fp8e4m3) (b c : Vec Ideal S7168x256 .fp8e4m3) (d : Vec Ideal S256x128 .f32)
    (e f : Vec Ideal S1x1x256 .f32) (g : Vec Ideal S256x128 .f32) :
    k0_pay40 (k0_pay39 a b c d e f g) = k0_pay36 (k0_pay35 a b c d e f g) := rfl
theorem pay44_eq (a : Vec Ideal S256x7168 .fp8e4m3) (b c : Vec Ideal S7168x256 .fp8e4m3) (d : Vec Ideal S256x128 .f32)
    (e f : Vec Ideal S1x1x256 .f32) (g : Vec Ideal S256x128 .f32) :
    k0_pay44 (k0_pay43 a b c d e f) g = k0_pay36 (k0_pay35 a b c d e f g) := rfl
theorem pay4_eq (a : Vec Ideal S256x7168 .fp8e4m3) (b c : Vec Ideal S7168x256 .fp8e4m3) (d : Vec Ideal S256x128 .f32)
    (e f : Vec Ideal S1x1x256 .f32) (g : Vec Ideal S256x128 .f32) :
    k0_pay4 (k0_pay47 a b c d e f) (k0_pay48 a b c d e f) g = k0_pay36 (k0_pay35 a b c d e f g) := rfl

/-! ## The quantiser -/

/-- The scaled maximum of a row: its 128 lane maxima folded together, times the constant next to `1/448`. -/
def top (v : Vec Ideal S1024x128 .f32) (r : Fin 1024) : EReal :=
  Finset.fold max (Ideal.ofBits .f32 4286578688#32) (fun l => v (ix2 r l)) Finset.univ * Ideal.ofBits .f32 991054117#32

theorem pay5_apply (v : Vec Ideal S1024x128 .f32) (r : Fin 1024) (l : Fin 128) : k0_pay5 v (ix2 r l) = top v r := by
  unfold top k0_pay5
  pointwise

theorem pay6_apply (v : Vec Ideal S1024x128 .f32) (r : Fin 1024) (l : Fin 128) :
    k0_pay6 v (ix2 r l) = BitVec.ofBool (decide (top v r < Ideal.ofBits .f32 8388608#32)) := by
  rw [← pay5_apply v r l]
  unfold k0_pay6
  pointwise

/-- The value whose exponent field is searched: lifted by `2 ^ 23` below the least normal number. -/
def lifted (x : EReal) : EReal := if x < Ideal.ofBits .f32 8388608#32 then x * Ideal.ofBits .f32 1258291200#32 else x

theorem pay7_apply (v : Vec Ideal S1024x128 .f32) (r : Fin 1024) (l : Fin 128) :
    k0_pay7 v (ix2 r l) = lifted (top v r) := by
  rw [← pay5_apply v r l]
  unfold lifted k0_pay7 k0_pay6
  pointwise

theorem pay8_apply (v : Vec Ideal S1024x128 .f32) (r : Fin 1024) (l : Fin 128) :
    k0_pay8 v (ix2 r l)
      = Exponent.step (lifted (top v r)) (Exponent.step (lifted (top v r)) (Exponent.step (lifted (top v r)) 0#32 128#32) 64#32) 32#32 := by
  rw [← pay7_apply v r l]
  unfold Exponent.step Exponent.word k0_pay8
  pointwise

theorem pay10_apply (f : Vec Ideal S1024x128 .f32) (q : IVec S1024x128 32) (i : S1024x128.Idx) :
    k0_pay10 (F := Ideal) f q (addi q (broadcast S1024x128 16#32)) 23#32 i
      = IntOp.subi (Exponent.step (f i) (Exponent.step (f i) (Exponent.step (f i) (Exponent.step (f i) (Exponent.step (f i) (q i) 16#32) 8#32) 4#32) 2#32) 1#32) 126#32 := by
  unfold Exponent.step Exponent.word k0_pay10
  pointwise

theorem pay10_field (v : Vec Ideal S1024x128 .f32) (r : Fin 1024) (l : Fin 128) :
    k0_pay10 (k0_pay7 v) (k0_pay8 v) (k0_pay9 v) 23#32 (ix2 r l)
      = IntOp.subi (Exponent.field (lifted (top v r))) 126#32 := by
  show k0_pay10 (k0_pay7 v) (k0_pay8 v) (addi (k0_pay8 v) (broadcast S1024x128 16#32)) 23#32 (ix2 r l) = _
  rw [pay10_apply, pay7_apply, pay8_apply]
  rfl

theorem pay11_apply (v : FVec Ideal S1024x128 .f32) (t : IVec S1024x128 1) (q : IVec S1024x128 32) (c : BitVec 32) (i : S1024x128.Idx) :
    k0_pay11 v t q c i
      = Scalar.select
          (IntOp.ori (BitVec.ofBool (decide (v i = 0)))
            (IntOp.xori (BitVec.ofBool (decide (v i < Ideal.ofBits .f32 2139095040#32))) 1#1))
          0#32 (IntOp.subi (q i) (Scalar.select (t i) c 0#32)) := by
  unfold k0_pay11
  pointwise

theorem pay11_exp (v : Vec Ideal S1024x128 .f32) (r : Fin 1024) (l : Fin 128) :
    k0_pay11 (k0_pay5 v) (k0_pay6 v) (k0_pay10 (k0_pay7 v) (k0_pay8 v) (k0_pay9 v) 23#32) 23#32 (ix2 r l)
      = Exponent.kExp (top v r) := by
  rw [pay11_apply, pay10_field, pay5_apply, pay6_apply]
  rfl

theorem pay13_exp (v : Vec Ideal S1024x128 .f32) (r : Fin 1024) (l : Fin 128) :
    k0_pay13 (k0_pay5 v) (k0_pay6 v) (k0_pay10 (k0_pay7 v) (k0_pay8 v) (k0_pay9 v) 23#32) 23#32 (ix2 r l)
      = Exponent.word (IntOp.subi 127#32 (Exponent.kExp (top v r))) := by
  rw [← pay11_exp v r l]
  unfold k0_pay13 Exponent.word
  generalize k0_pay11 (F := Ideal) _ _ _ _ = q
  pointwise

theorem pay12_exp (v : Vec Ideal S1024x128 .f32) (r : Fin 1024) (l : Fin 128) :
    k0_pay12 (k0_pay5 v) (k0_pay6 v) (k0_pay10 (k0_pay7 v) (k0_pay8 v) (k0_pay9 v) 23#32) 23#32 (ix2 r l)
      = Exponent.word (IntOp.addi (Exponent.kExp (top v r)) 127#32) := by
  rw [← pay11_exp v r l]
  unfold k0_pay12 Exponent.word
  generalize k0_pay11 (F := Ideal) _ _ _ _ = q
  pointwise

section Rows
variable (a : FVec Ideal S1024x128 .f32) (b : IVec S1024x128 1) (c : IVec S1024x128 32) (d : BitVec 32)

theorem pay14_apply (l : Fin 128) : k0_pay14 (F := Ideal) a b c d (ix2 0 l) = k0_pay12 (F := Ideal) a b c d (ix2 ⟨0 + l.val, by omega⟩ 0) := by
  unfold k0_pay14; generalize k0_pay12 (F := Ideal) _ _ _ _ = q; pointwise
theorem pay15_apply (l : Fin 128) : k0_pay15 (F := Ideal) a b c d (ix2 0 l) = k0_pay12 (F := Ideal) a b c d (ix2 ⟨128 + l.val, by omega⟩ 0) := by
  unfold k0_pay15; generalize k0_pay12 (F := Ideal) _ _ _ _ = q; pointwise
theorem pay16_apply (l : Fin 128) : k0_pay16 (F := Ideal) a b c d (ix2 0 l) = k0_pay12 (F := Ideal) a b c d (ix2 ⟨256 + l.val, by omega⟩ 0) := by
  unfold k0_pay16; generalize k0_pay12 (F := Ideal) _ _ _ _ = q; pointwise
theorem pay17_apply (l : Fin 128) : k0_pay17 (F := Ideal) a b c d (ix2 0 l) = k0_pay12 (F := Ideal) a b c d (ix2 ⟨384 + l.val, by omega⟩ 0) := by
  unfold k0_pay17; generalize k0_pay12 (F := Ideal) _ _ _ _ = q; pointwise
theorem pay18_apply (l : Fin 128) : k0_pay18 (F := Ideal) a b c d (ix2 0 l) = k0_pay12 (F := Ideal) a b c d (ix2 ⟨512 + l.val, by omega⟩ 0) := by
  unfold k0_pay18; generalize k0_pay12 (F := Ideal) _ _ _ _ = q; pointwise
theorem pay19_apply (l : Fin 128) : k0_pay19 (F := Ideal) a b c d (ix2 0 l) = k0_pay12 (F := Ideal) a b c d (ix2 ⟨640 + l.val, by omega⟩ 0) := by
  unfold k0_pay19; generalize k0_pay12 (F := Ideal) _ _ _ _ = q; pointwise
theorem pay20_apply (l : Fin 128) : k0_pay20 (F := Ideal) a b c d (ix2 0 l) = k0_pay12 (F := Ideal) a b c d (ix2 ⟨768 + l.val, by omega⟩ 0) := by
  unfold k0_pay20; generalize k0_pay12 (F := Ideal) _ _ _ _ = q; pointwise
theorem pay21_apply (l : Fin 128) : k0_pay21 (F := Ideal) a b c d (ix2 0 l) = k0_pay12 (F := Ideal) a b c d (ix2 ⟨896 + l.val, by omega⟩ 0) := by
  unfold k0_pay21; generalize k0_pay12 (F := Ideal) _ _ _ _ = q; pointwise

theorem pay22_apply (p0 p1 p2 p3 p4 p5 p6 : FVec Ideal S1x128 .f32) (p7 : FVec Ideal S128x128 .f32) (P : Fin 1024 → EReal)
    (h0 : ∀ l : Fin 128, p0 (ix2 0 l) = P ⟨0 + l.val, by omega⟩) (h1 : ∀ l : Fin 128, p1 (ix2 0 l) = P ⟨128 + l.val, by omega⟩)
    (h2 : ∀ l : Fin 128, p2 (ix2 0 l) = P ⟨256 + l.val, by omega⟩) (h3 : ∀ l : Fin 128, p3 (ix2 0 l) = P ⟨384 + l.val, by omega⟩)
    (h4 : ∀ l : Fin 128, p4 (ix2 0 l) = P ⟨512 + l.val, by omega⟩) (h5 : ∀ l : Fin 128, p5 (ix2 0 l) = P ⟨640 + l.val, by omega⟩)
    (h6 : ∀ l : Fin 128, p6 (ix2 0 l) = P ⟨768 + l.val, by omega⟩) (h7 : ∀ l : Fin 128, p7 (ix2 0 l) = P ⟨896 + l.val, by omega⟩)
    (s : Fin 8) (l : Fin 128) :
    k0_pay22 p0 p1 p2 p3 p4 p5 p6 p7 (ix3 0 s l) = P ⟨128 * s.val + l.val, by omega⟩ := by
  unfold k0_pay22
  match s with
  | ⟨0, _⟩ => exact Eq.trans (by pointwise) (h0 l)
  | ⟨1, _⟩ => exact Eq.trans (by pointwise) (h1 l)
  | ⟨2, _⟩ => exact Eq.trans (by pointwise) (h2 l)
  | ⟨3, _⟩ => exact Eq.trans (by pointwise) (h3 l)
  | ⟨4, _⟩ => exact Eq.trans (by pointwise) (h4 l)
  | ⟨5, _⟩ => exact Eq.trans (by pointwise) (h5 l)
  | ⟨6, _⟩ => exact Eq.trans (by pointwise) (h6 l)
  | ⟨7, _⟩ => exact Eq.trans (by pointwise) (h7 l)

end Rows

/-! ## The spread of a row of scales over the lanes, the zeros, the codes -/

section Spread
variable (a : Vec Ideal S1x1x128 .f32) (r l : Fin 128)

theorem pay23_apply : k0_pay23 (F := Ideal) a (ix2 r l) = a (ix3 0 0 r) := by unfold k0_pay23; pointwise
theorem pay24_apply : k0_pay24 (F := Ideal) a (ix2 r l) = a (ix3 0 0 r) := by unfold k0_pay24; pointwise
theorem pay25_apply : k0_pay25 (F := Ideal) a (ix2 r l) = a (ix3 0 0 r) := by unfold k0_pay25; pointwise
theorem pay27_apply : k0_pay27 (F := Ideal) (k0_pay26 a) (ix2 r l) = a (ix3 0 0 r) := by unfold k0_pay27 k0_pay26; pointwise
theorem pay28_apply : k0_pay28 (F := Ideal) a (ix2 r l) = a (ix3 0 0 r) := by unfold k0_pay28; pointwise
theorem pay29_apply : k0_pay29 (F := Ideal) a (ix2 r l) = a (ix3 0 0 r) := by unfold k0_pay29; pointwise
theorem pay30_apply : k0_pay30 (F := Ideal) a (ix2 r l) = a (ix3 0 0 r) := by unfold k0_pay30; pointwise
theorem pay31_apply : k0_pay31 (F := Ideal) a (ix2 r l) = a (ix3 0 0 r) := by unfold k0_pay31; pointwise

end Spread

theorem pay1_zero (r : Fin 1024) (l : Fin 128) : k0_pay1 (k0_pay32 (F := Ideal)) (ix2 r l) = 0 := by
  unfold k0_pay1 k0_pay32
  pointwise

/-- Clipping to the widest code. -/
def clip (x : EReal) : EReal := min (Ideal.ofBits .f32 1138753536#32) (max (Ideal.ofBits .f32 3286237184#32) x)

theorem pay2_apply (a b : Vec Ideal S1024x128 .f32) (r : Fin 1024) (l : Fin 128) :
    k0_pay2 a b (ix2 r l) = clip (b (ix2 r l) * a (ix2 r l)) := by
  unfold clip k0_pay2
  pointwise

theorem pay3_apply (a b : Vec Ideal S1024x128 .f32) (r : Fin 1024) (l : Fin 128) :
    k0_pay3 a b (ix2 r l) = clip (b (ix2 r l) * a (ix2 r l)) := by
  unfold clip k0_pay3
  pointwise

end Cert.KernelIdeal.Own

end
-- ==== Proof.KRead.lean ====
/- Reading back the buffers that the kernel's stores leave: the entries of a load, and the contents after a list of
   stores that tile a buffer by blocks of rows, of columns, or whole. Stated once for any buffer of the shape. -/
module

public import proofs.«01_k».proof.Proof.Gen.KernelIdeal.Skeleton
public import Idealize.ShloMosaic.Lib.Pointwise
public import Idealize.ShloMosaic.Lib.WritesUnit
public import Idealize.ShloMosaic.Lib.WholeRead

@[expose] public section

set_option maxRecDepth 16384

noncomputable section

namespace Cert.KernelIdeal.Own

open Cert.KernelIdeal Cert.KernelIdeal.Gen
open Idealize.ShloMosaic

/-! ## The index of a load -/

theorem idx_rows {N W n w : ℕ} (o : ℕ) (inb : ∀ a, (![o, 0] : Fin 2 → ℕ) a + (![n, w] : Fin 2 → ℕ) a ≤ (⟨2, ![N, W]⟩ : Shape).size a)
    (r : Fin n) (l : Fin w) (hr : o + r.val < N) (hl : l.val < W) :
    (Rect.unit (s := ⟨2, ![N, W]⟩) ![o, 0] ![n, w] inb).toLoadRect.idx (ix2 r l) = ix2 ⟨o + r.val, hr⟩ ⟨l.val, hl⟩ := by
  funext a
  apply Fin.ext
  match a with
  | ⟨0, _⟩ => show o + 1 * r.val = o + r.val; omega
  | ⟨1, _⟩ => show 0 + 1 * l.val = l.val; omega

theorem idx_cols {N W n w : ℕ} (off : Fin 2 → ℕ) (o : ℕ) (ho : off = ![0, o])
    (inb : ∀ a, off a + (![n, w] : Fin 2 → ℕ) a ≤ (⟨2, ![N, W]⟩ : Shape).size a)
    (r : Fin n) (l : Fin w) (hr : r.val < N) (hl : o + l.val < W) :
    (Rect.unit (s := ⟨2, ![N, W]⟩) off ![n, w] inb).toLoadRect.idx (ix2 r l) = ix2 ⟨r.val, hr⟩ ⟨o + l.val, hl⟩ := by
  subst ho
  funext a
  apply Fin.ext
  match a with
  | ⟨0, _⟩ => show 0 + 1 * r.val = r.val; omega
  | ⟨1, _⟩ => show o + 1 * l.val = o + l.val; omega

theorem idx_row3 {A B C : ℕ} (s : ℕ) (inb : ∀ a, (![0, s, 0] : Fin 3 → ℕ) a + (![1, 1, C] : Fin 3 → ℕ) a ≤ (⟨3, ![A, B, C]⟩ : Shape).size a)
    (l : Fin C) (hA : 0 < A) (hs : s < B) :
    (Rect.unit (s := ⟨3, ![A, B, C]⟩) ![0, s, 0] ![1, 1, C] inb).toLoadRect.idx (ix3 0 0 l) = ix3 ⟨0, hA⟩ ⟨s, hs⟩ l := by
  funext a
  apply Fin.ext
  match a with
  | ⟨0, _⟩ => rfl
  | ⟨1, _⟩ => rfl
  | ⟨2, _⟩ => show 0 + 1 * l.val = l.val; omega

section Loads

variable {sig : RefSig} {κ : Kind} {sp : Space} {e : EltTy} {Val : EltTy → Type}

/-- A load of a block of whole rows. -/
theorem load_rows {N W n : ℕ} (m : Memref sig κ sp ⟨2, ![N, W]⟩ e) (h : m.IsWhole) (X : (⟨2, ![N, W]⟩ : Shape).Idx → Val e)
    (o : ℕ) (inb : ∀ a, (![o, 0] : Fin 2 → ℕ) a + (![n, W] : Fin 2 → ℕ) a ≤ (⟨2, ![N, W]⟩ : Shape).size a)
    (r : Fin n) (l : Fin W) (hr : o + r.val < N) :
    View.readAt Val m.view (Rect.unit (s := ⟨2, ![N, W]⟩) ![o, 0] ![n, W] inb).toLoadRect (h.unread X) (ix2 r l)
      = X (ix2 ⟨o + r.val, hr⟩ l) :=
  (h.readAt_unread X _ _).trans (congrArg X (idx_rows o inb r l hr l.isLt))

/-- A load of a block of columns. -/
theorem load_cols {N W w : ℕ} (m : Memref sig κ sp ⟨2, ![N, W]⟩ e) (h : m.IsWhole) (X : (⟨2, ![N, W]⟩ : Shape).Idx → Val e)
    (off : Fin 2 → ℕ) (o : ℕ) (ho : off = ![0, o]) (inb : ∀ a, off a + (![N, w] : Fin 2 → ℕ) a ≤ (⟨2, ![N, W]⟩ : Shape).size a)
    (r : Fin N) (l : Fin w) (hl : o + l.val < W) :
    View.readAt Val m.view (Rect.unit (s := ⟨2, ![N, W]⟩) off ![N, w] inb).toLoadRect (h.unread X) (ix2 r l)
      = X (ix2 r ⟨o + l.val, hl⟩) :=
  (h.readAt_unread X _ _).trans (congrArg X (idx_cols off o ho inb r l r.isLt hl))

/-- A load of one row of the middle axis. -/
theorem load_row3 {A B C : ℕ} (m : Memref sig κ sp ⟨3, ![A, B, C]⟩ e) (h : m.IsWhole) (X : (⟨3, ![A, B, C]⟩ : Shape).Idx → Val e)
    (s : ℕ) (inb : ∀ a, (![0, s, 0] : Fin 3 → ℕ) a + (![1, 1, C] : Fin 3 → ℕ) a ≤ (⟨3, ![A, B, C]⟩ : Shape).size a)
    (l : Fin C) (hA : 0 < A) (hs : s < B) :
    View.readAt Val m.view (Rect.unit (s := ⟨3, ![A, B, C]⟩) ![0, s, 0] ![1, 1, C] inb).toLoadRect (h.unread X) (ix3 0 0 l)
      = X (ix3 ⟨0, hA⟩ ⟨s, hs⟩ l) :=
  (h.readAt_unread X _ _).trans (congrArg X (idx_row3 s inb l hA hs))

/-- A load of the whole of a rank-2 buffer. -/
theorem load_all2 {N W : ℕ} (m : Memref sig κ sp ⟨2, ![N, W]⟩ e) (h : m.IsWhole) (X : (⟨2, ![N, W]⟩ : Shape).Idx → Val e)
    (inb : ∀ a, (![0, 0] : Fin 2 → ℕ) a + (![N, W] : Fin 2 → ℕ) a ≤ (⟨2, ![N, W]⟩ : Shape).size a) :
    View.readAt Val m.view (Rect.unit (s := ⟨2, ![N, W]⟩) ![0, 0] ![N, W] inb).toLoadRect (h.unread X) = X := by
  funext j
  refine (h.readAt_unread X _ _).trans (congrArg X ?_)
  funext a
  apply Fin.ext
  match a with
  | ⟨0, _⟩ => show 0 + 1 * (j 0).val = (j 0).val; omega
  | ⟨1, _⟩ => show 0 + 1 * (j 1).val = (j 1).val; omega

/-- A load of the whole of a rank-3 buffer. -/
theorem load_all3 {A B C : ℕ} (m : Memref sig κ sp ⟨3, ![A, B, C]⟩ e) (h : m.IsWhole) (X : (⟨3, ![A, B, C]⟩ : Shape).Idx → Val e)
    (inb : ∀ a, (![0, 0, 0] : Fin 3 → ℕ) a + (![A, B, C] : Fin 3 → ℕ) a ≤ (⟨3, ![A, B, C]⟩ : Shape).size a) :
    View.readAt Val m.view (Rect.unit (s := ⟨3, ![A, B, C]⟩) ![0, 0, 0] ![A, B, C] inb).toLoadRect (h.unread X) = X := by
  funext j
  refine (h.readAt_unread X _ _).trans (congrArg X ?_)
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

end Loads

/-! ## Contents after stores -/

section Stores

variable {sig : RefSig} {κ : Kind} {sp : Space} {e : EltTy} {Val : EltTy → Type}

/-- The newest piece holds a block of whole rows: its entries are the payload's, every other row is what was there. -/
theorem read_rows {N W n : ℕ} (v : View sig κ sp ⟨2, ![N, W]⟩ e) (f : v.ty.Contents Val) (o : ℕ)
    (inb : ∀ a, (![o, 0] : Fin 2 → ℕ) a + (![n, W] : Fin 2 → ℕ) a ≤ (⟨2, ![N, W]⟩ : Shape).size a)
    (w : (⟨2, ![n, W]⟩ : Shape).Idx → Val e) (L : List (View.Piece Val ⟨2, ![N, W]⟩ e)) (r : Fin N) (l : Fin W) :
    v.read Val (v.writes Val f ((⟨Rect.unit (s := ⟨2, ![N, W]⟩) ![o, 0] ![n, W] inb, w⟩ : View.Piece Val ⟨2, ![N, W]⟩ e) :: L)) (ix2 r l)
      = if h : o ≤ r.val ∧ r.val < o + n then w (ix2 ⟨r.val - o, by omega⟩ l)
        else v.read Val (v.writes Val f L) (ix2 r l) := by
  split
  · next h =>
    refine View.read_writes_cons_unit_of_mem v f inb w L (ix2 r l) (ix2 ⟨r.val - o, by omega⟩ l) rfl fun a => ?_
    match a with
    | ⟨0, _⟩ => show r.val = o + (r.val - o); omega
    | ⟨1, _⟩ => show l.val = 0 + l.val; omega
  · next h =>
    refine View.read_writes_cons_unit_of_not_mem v f inb w L (ix2 r l) rfl (0 : Fin 2) ?_
    show r.val < o ∨ o + n ≤ r.val
    omega

/-- The newest piece holds a block of rows of some columns. -/
theorem read_block {N W n w : ℕ} (v : View sig κ sp ⟨2, ![N, W]⟩ e) (f : v.ty.Contents Val) (off : Fin 2 → ℕ) (o p : ℕ) (hoff : off = ![o, p])
    (inb : ∀ a, off a + (![n, w] : Fin 2 → ℕ) a ≤ (⟨2, ![N, W]⟩ : Shape).size a)
    (q : (⟨2, ![n, w]⟩ : Shape).Idx → Val e) (L : List (View.Piece Val ⟨2, ![N, W]⟩ e)) (r : Fin N) (l : Fin W) :
    v.read Val (v.writes Val f ((⟨Rect.unit (s := ⟨2, ![N, W]⟩) off ![n, w] inb, q⟩ : View.Piece Val ⟨2, ![N, W]⟩ e) :: L)) (ix2 r l)
      = if h : (o ≤ r.val ∧ r.val < o + n) ∧ (p ≤ l.val ∧ l.val < p + w) then q (ix2 ⟨r.val - o, by omega⟩ ⟨l.val - p, by omega⟩)
        else v.read Val (v.writes Val f L) (ix2 r l) := by
  split
  · next h =>
    refine View.read_writes_cons_unit_of_mem v f inb q L (ix2 r l) (ix2 ⟨r.val - o, by omega⟩ ⟨l.val - p, by omega⟩) hoff fun a => ?_
    match a with
    | ⟨0, _⟩ => show r.val = o + (r.val - o); omega
    | ⟨1, _⟩ => show l.val = p + (l.val - p); omega
  · next h =>
    by_cases h0 : o ≤ r.val ∧ r.val < o + n
    · refine View.read_writes_cons_unit_of_not_mem v f inb q L (ix2 r l) hoff (1 : Fin 2) ?_
      show l.val < p ∨ p + w ≤ l.val
      omega
    · refine View.read_writes_cons_unit_of_not_mem v f inb q L (ix2 r l) hoff (0 : Fin 2) ?_
      show r.val < o ∨ o + n ≤ r.val
      omega

/-- A piece that holds the whole of a rank-2 buffer: its payload is read, whatever was stored before. -/
theorem read_all2 {N W : ℕ} (v : View sig κ sp ⟨2, ![N, W]⟩ e) (f : v.ty.Contents Val)
    (inb : ∀ a, (![0, 0] : Fin 2 → ℕ) a + (![N, W] : Fin 2 → ℕ) a ≤ (⟨2, ![N, W]⟩ : Shape).size a)
    (q : (⟨2, ![N, W]⟩ : Shape).Idx → Val e) (L : List (View.Piece Val ⟨2, ![N, W]⟩ e)) (y : (⟨2, ![N, W]⟩ : Shape).Idx) :
    v.read Val (v.writes Val f ((⟨Rect.unit (s := ⟨2, ![N, W]⟩) ![0, 0] ![N, W] inb, q⟩ : View.Piece Val ⟨2, ![N, W]⟩ e) :: L)) y = q y := by
  refine View.read_writes_cons_unit_of_mem v f inb q L y y rfl fun a => ?_
  match a with
  | ⟨0, _⟩ => show (y 0).val = 0 + (y 0).val; omega
  | ⟨1, _⟩ => show (y 1).val = 0 + (y 1).val; omega

/-- A piece that holds the whole of a rank-3 buffer. -/
theorem read_all3 {A B C : ℕ} (v : View sig κ sp ⟨3, ![A, B, C]⟩ e) (f : v.ty.Contents Val)
    (inb : ∀ a, (![0, 0, 0] : Fin 3 → ℕ) a + (![A, B, C] : Fin 3 → ℕ) a ≤ (⟨3, ![A, B, C]⟩ : Shape).size a)
    (q : (⟨3, ![A, B, C]⟩ : Shape).Idx → Val e) (L : List (View.Piece Val ⟨3, ![A, B, C]⟩ e)) (y : (⟨3, ![A, B, C]⟩ : Shape).Idx) :
    v.read Val (v.writes Val f ((⟨Rect.unit (s := ⟨3, ![A, B, C]⟩) ![0, 0, 0] ![A, B, C] inb, q⟩ : View.Piece Val ⟨3, ![A, B, C]⟩ e) :: L)) y = q y := by
  refine View.read_writes_cons_unit_of_mem v f inb q L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

end Stores

section Tiled

variable {sig : RefSig} {κ : Kind} {sp : Space} {e : EltTy} {Val : EltTy → Type}

/-- Four blocks of 256 rows, last first, over anything: every entry is its block's. -/
theorem read_rows4 (v : View sig κ sp S1024x128 e) (f : v.ty.Contents Val) (T : Fin 1024 → Fin 128 → Val e)
    (i0 : ∀ a, (![0, 0] : Fin 2 → ℕ) a + (![256, 128] : Fin 2 → ℕ) a ≤ S1024x128.size a)
    (i1 : ∀ a, (![256, 0] : Fin 2 → ℕ) a + (![256, 128] : Fin 2 → ℕ) a ≤ S1024x128.size a)
    (i2 : ∀ a, (![512, 0] : Fin 2 → ℕ) a + (![256, 128] : Fin 2 → ℕ) a ≤ S1024x128.size a)
    (i3 : ∀ a, (![768, 0] : Fin 2 → ℕ) a + (![256, 128] : Fin 2 → ℕ) a ≤ S1024x128.size a)
    (w0 w1 w2 w3 : S256x128.Idx → Val e) (L : List (View.Piece Val S1024x128 e))
    (h0 : ∀ (r : Fin 256) l, w0 (ix2 r l) = T ⟨0 + r.val, by omega⟩ l) (h1 : ∀ (r : Fin 256) l, w1 (ix2 r l) = T ⟨256 + r.val, by omega⟩ l)
    (h2 : ∀ (r : Fin 256) l, w2 (ix2 r l) = T ⟨512 + r.val, by omega⟩ l) (h3 : ∀ (r : Fin 256) l, w3 (ix2 r l) = T ⟨768 + r.val, by omega⟩ l)
    (r : Fin 1024) (l : Fin 128) :
    v.read Val (v.writes Val f (
      (⟨Rect.unit (s := S1024x128) ![768, 0] ![256, 128] i3, w3⟩ : View.Piece Val S1024x128 e)
      :: (⟨Rect.unit (s := S1024x128) ![512, 0] ![256, 128] i2, w2⟩ : View.Piece Val S1024x128 e)
      :: (⟨Rect.unit (s := S1024x128) ![256, 0] ![256, 128] i1, w1⟩ : View.Piece Val S1024x128 e)
      :: (⟨Rect.unit (s := S1024x128) ![0, 0] ![256, 128] i0, w0⟩ : View.Piece Val S1024x128 e) :: L)) (ix2 r l) = T r l := by
  have hr := r.isLt
  rw [read_rows v f 768 i3 w3 _ r l]
  split
  · rw [h3]; exact congrArg (fun q => T q l) (Fin.ext (by show 768 + (r.val - 768) = r.val; omega))
  rw [read_rows v f 512 i2 w2 _ r l]
  split
  · rw [h2]; exact congrArg (fun q => T q l) (Fin.ext (by show 512 + (r.val - 512) = r.val; omega))
  rw [read_rows v f 256 i1 w1 _ r l]
  split
  · rw [h1]; exact congrArg (fun q => T q l) (Fin.ext (by show 256 + (r.val - 256) = r.val; omega))
  rw [read_rows v f 0 i0 w0 _ r l]
  split
  · rw [h0]; exact congrArg (fun q => T q l) (Fin.ext (by show 0 + (r.val - 0) = r.val; omega))
  · omega

/-- Eight blocks of 128 rows, last first. -/
theorem read_rows8 (v : View sig κ sp S1024x128 e) (f : v.ty.Contents Val) (T : Fin 1024 → Fin 128 → Val e)
    (i0 : ∀ a, (![0, 0] : Fin 2 → ℕ) a + (![128, 128] : Fin 2 → ℕ) a ≤ S1024x128.size a)
    (i1 : ∀ a, (![128, 0] : Fin 2 → ℕ) a + (![128, 128] : Fin 2 → ℕ) a ≤ S1024x128.size a)
    (i2 : ∀ a, (![256, 0] : Fin 2 → ℕ) a + (![128, 128] : Fin 2 → ℕ) a ≤ S1024x128.size a)
    (i3 : ∀ a, (![384, 0] : Fin 2 → ℕ) a + (![128, 128] : Fin 2 → ℕ) a ≤ S1024x128.size a)
    (i4 : ∀ a, (![512, 0] : Fin 2 → ℕ) a + (![128, 128] : Fin 2 → ℕ) a ≤ S1024x128.size a)
    (i5 : ∀ a, (![640, 0] : Fin 2 → ℕ) a + (![128, 128] : Fin 2 → ℕ) a ≤ S1024x128.size a)
    (i6 : ∀ a, (![768, 0] : Fin 2 → ℕ) a + (![128, 128] : Fin 2 → ℕ) a ≤ S1024x128.size a)
    (i7 : ∀ a, (![896, 0] : Fin 2 → ℕ) a + (![128, 128] : Fin 2 → ℕ) a ≤ S1024x128.size a)
    (w0 w1 w2 w3 w4 w5 w6 w7 : S128x128.Idx → Val e)
    (h0 : ∀ (r : Fin 128) l, w0 (ix2 r l) = T ⟨0 + r.val, by omega⟩ l) (h1 : ∀ (r : Fin 128) l, w1 (ix2 r l) = T ⟨128 + r.val, by omega⟩ l)
    (h2 : ∀ (r : Fin 128) l, w2 (ix2 r l) = T ⟨256 + r.val, by omega⟩ l) (h3 : ∀ (r : Fin 128) l, w3 (ix2 r l) = T ⟨384 + r.val, by omega⟩ l)
    (h4 : ∀ (r : Fin 128) l, w4 (ix2 r l) = T ⟨512 + r.val, by omega⟩ l) (h5 : ∀ (r : Fin 128) l, w5 (ix2 r l) = T ⟨640 + r.val, by omega⟩ l)
    (h6 : ∀ (r : Fin 128) l, w6 (ix2 r l) = T ⟨768 + r.val, by omega⟩ l) (h7 : ∀ (r : Fin 128) l, w7 (ix2 r l) = T ⟨896 + r.val, by omega⟩ l)
    (r : Fin 1024) (l : Fin 128) :
    v.read Val (v.writes Val f [
      (⟨Rect.unit (s := S1024x128) ![896, 0] ![128, 128] i7, w7⟩ : View.Piece Val S1024x128 e),
      (⟨Rect.unit (s := S1024x128) ![768, 0] ![128, 128] i6, w6⟩ : View.Piece Val S1024x128 e),
      (⟨Rect.unit (s := S1024x128) ![640, 0] ![128, 128] i5, w5⟩ : View.Piece Val S1024x128 e),
      (⟨Rect.unit (s := S1024x128) ![512, 0] ![128, 128] i4, w4⟩ : View.Piece Val S1024x128 e),
      (⟨Rect.unit (s := S1024x128) ![384, 0] ![128, 128] i3, w3⟩ : View.Piece Val S1024x128 e),
      (⟨Rect.unit (s := S1024x128) ![256, 0] ![128, 128] i2, w2⟩ : View.Piece Val S1024x128 e),
      (⟨Rect.unit (s := S1024x128) ![128, 0] ![128, 128] i1, w1⟩ : View.Piece Val S1024x128 e),
      (⟨Rect.unit (s := S1024x128) ![0, 0] ![128, 128] i0, w0⟩ : View.Piece Val S1024x128 e)]) (ix2 r l) = T r l := by
  have hr := r.isLt
  rw [read_rows v f 896 i7 w7 _ r l]
  split
  · rw [h7]; exact congrArg (fun q => T q l) (Fin.ext (by show 896 + (r.val - 896) = r.val; omega))
  rw [read_rows v f 768 i6 w6 _ r l]
  split
  · rw [h6]; exact congrArg (fun q => T q l) (Fin.ext (by show 768 + (r.val - 768) = r.val; omega))
  rw [read_rows v f 640 i5 w5 _ r l]
  split
  · rw [h5]; exact congrArg (fun q => T q l) (Fin.ext (by show 640 + (r.val - 640) = r.val; omega))
  rw [read_rows v f 512 i4 w4 _ r l]
  split
  · rw [h4]; exact congrArg (fun q => T q l) (Fin.ext (by show 512 + (r.val - 512) = r.val; omega))
  rw [read_rows v f 384 i3 w3 _ r l]
  split
  · rw [h3]; exact congrArg (fun q => T q l) (Fin.ext (by show 384 + (r.val - 384) = r.val; omega))
  rw [read_rows v f 256 i2 w2 _ r l]
  split
  · rw [h2]; exact congrArg (fun q => T q l) (Fin.ext (by show 256 + (r.val - 256) = r.val; omega))
  rw [read_rows v f 128 i1 w1 _ r l]
  split
  · rw [h1]; exact congrArg (fun q => T q l) (Fin.ext (by show 128 + (r.val - 128) = r.val; omega))
  rw [read_rows v f 0 i0 w0 _ r l]
  split
  · rw [h0]; exact congrArg (fun q => T q l) (Fin.ext (by show 0 + (r.val - 0) = r.val; omega))
  · omega

/-- Four blocks of 256 rows of 256 columns from column `J`: those columns hold the tile, the others what was there. -/
theorem read_tile (v : View sig κ sp S1024x9216 e) (f : v.ty.Contents Val) (T : Fin 1024 → Fin 256 → Val e) (J : ℕ)
    (o0 o1 o2 o3 : Fin 2 → ℕ) (e0 : o0 = ![0, J]) (e1 : o1 = ![256, J]) (e2 : o2 = ![512, J]) (e3 : o3 = ![768, J])
    (i0 : ∀ a, o0 a + (![256, 256] : Fin 2 → ℕ) a ≤ S1024x9216.size a)
    (i1 : ∀ a, o1 a + (![256, 256] : Fin 2 → ℕ) a ≤ S1024x9216.size a)
    (i2 : ∀ a, o2 a + (![256, 256] : Fin 2 → ℕ) a ≤ S1024x9216.size a)
    (i3 : ∀ a, o3 a + (![256, 256] : Fin 2 → ℕ) a ≤ S1024x9216.size a)
    (w0 w1 w2 w3 : S256x256.Idx → Val e)
    (h0 : ∀ (r : Fin 256) l, w0 (ix2 r l) = T ⟨0 + r.val, by omega⟩ l) (h1 : ∀ (r : Fin 256) l, w1 (ix2 r l) = T ⟨256 + r.val, by omega⟩ l)
    (h2 : ∀ (r : Fin 256) l, w2 (ix2 r l) = T ⟨512 + r.val, by omega⟩ l) (h3 : ∀ (r : Fin 256) l, w3 (ix2 r l) = T ⟨768 + r.val, by omega⟩ l)
    (r : Fin 1024) (c : Fin 9216) :
    v.read Val (v.writes Val f [
      (⟨Rect.unit (s := S1024x9216) o3 ![256, 256] i3, w3⟩ : View.Piece Val S1024x9216 e),
      (⟨Rect.unit (s := S1024x9216) o2 ![256, 256] i2, w2⟩ : View.Piece Val S1024x9216 e),
      (⟨Rect.unit (s := S1024x9216) o1 ![256, 256] i1, w1⟩ : View.Piece Val S1024x9216 e),
      (⟨Rect.unit (s := S1024x9216) o0 ![256, 256] i0, w0⟩ : View.Piece Val S1024x9216 e)]) (ix2 r c)
      = if h : J ≤ c.val ∧ c.val < J + 256 then T r ⟨c.val - J, by omega⟩ else v.read Val f (ix2 r c) := by
  have hr := r.isLt
  rw [read_block v f o3 768 J e3 i3 w3 _ r c, read_block v f o2 512 J e2 i2 w2 _ r c,
    read_block v f o1 256 J e1 i1 w1 _ r c, read_block v f o0 0 J e0 i0 w0 _ r c]
  by_cases h : J ≤ c.val ∧ c.val < J + 256
  · rw [dif_pos h]
    split
    · rw [h3]; exact congrArg (fun q => T q _) (Fin.ext (by show 768 + (r.val - 768) = r.val; omega))
    split
    · rw [h2]; exact congrArg (fun q => T q _) (Fin.ext (by show 512 + (r.val - 512) = r.val; omega))
    split
    · rw [h1]; exact congrArg (fun q => T q _) (Fin.ext (by show 256 + (r.val - 256) = r.val; omega))
    split
    · rw [h0]; exact congrArg (fun q => T q _) (Fin.ext (by show 0 + (r.val - 0) = r.val; omega))
    · omega
  · rw [dif_neg h, dif_neg (fun q => h q.2), dif_neg (fun q => h q.2), dif_neg (fun q => h q.2), dif_neg (fun q => h q.2)]
    rfl

/-- Two halves of 128 columns, last first. -/
theorem read_halves (v : View sig κ sp S1024x256 e) (f : v.ty.Contents Val) (T : Fin 1024 → Fin 256 → Val e)
    (i0 : ∀ a, (![0, 0] : Fin 2 → ℕ) a + (![1024, 128] : Fin 2 → ℕ) a ≤ S1024x256.size a)
    (i1 : ∀ a, (![0, 128] : Fin 2 → ℕ) a + (![1024, 128] : Fin 2 → ℕ) a ≤ S1024x256.size a)
    (w0 w1 : S1024x128.Idx → Val e)
    (h0 : ∀ r (l : Fin 128), w0 (ix2 r l) = T r ⟨0 + l.val, by omega⟩) (h1 : ∀ r (l : Fin 128), w1 (ix2 r l) = T r ⟨128 + l.val, by omega⟩)
    (r : Fin 1024) (l : Fin 256) :
    v.read Val (v.writes Val f [
      (⟨Rect.unit (s := S1024x256) ![0, 128] ![1024, 128] i1, w1⟩ : View.Piece Val S1024x256 e),
      (⟨Rect.unit (s := S1024x256) ![0, 0] ![1024, 128] i0, w0⟩ : View.Piece Val S1024x256 e)]) (ix2 r l) = T r l := by
  have hr := r.isLt
  have hl := l.isLt
  rw [read_block v f ![0, 128] 0 128 rfl i1 w1 _ r l]
  split
  · rw [h1]; exact congrArg (T _) (Fin.ext (by show 128 + (l.val - 128) = l.val; omega))
  rw [read_block v f ![0, 0] 0 0 rfl i0 w0 _ r l]
  split
  · rw [h0]; exact congrArg (T _) (Fin.ext (by show 0 + (l.val - 0) = l.val; omega))
  · omega

end Tiled

end Cert.KernelIdeal.Own

end
-- ==== Proof.KWritten.lean ====
/- What each buffer of the kernel holds after one grid point, as plain functions of what it held before: the tile
   written into the row block, the lane maxima, the spread scales, the reciprocal, the scales written out, the codes. -/
module

public import proofs.«01_k».proof.Proof.KPay
public import proofs.«01_k».proof.Proof.KRead

@[expose] public section

set_option maxRecDepth 16384

noncomputable section

namespace Cert.KernelIdeal.Own

open Cert.KernelIdeal Cert.KernelIdeal.Gen
open Idealize.ShloMosaic

/-! ## The contents -/

/-- Row `r`, every lane: the scale of row `r`. -/
def spread (x1 : Vec Ideal S1x8x128 .f32) : Vec Ideal S1024x128 .f32 := fun k =>
  x1 (ix3 0 ⟨(k 0).val / 128, Nat.div_lt_of_lt_mul (show (k 0).val < 128 * 8 from (k 0).isLt)⟩ ⟨(k 0).val % 128, Nat.mod_lt _ (by omega)⟩)

/-- The row block with tile `j` written. -/
def putTile (j : ℕ) (T : Fin 1024 → Fin 256 → EReal) (Y : Vec Ideal S1024x9216 .f32) : Vec Ideal S1024x9216 .f32 := fun k =>
  if h : 256 * j ≤ (k 1).val ∧ (k 1).val < 256 * j + 256 then T (k 0) ⟨(k 1).val - 256 * j, by omega⟩ else Y k

/-- The lane maxima with a tile taken in. -/
def putMax (T : Fin 1024 → Fin 256 → EReal) (M : Vec Ideal S1024x128 .f32) : Vec Ideal S1024x128 .f32 := fun k =>
  max (M k) (max (mag (T (k 0) ⟨(k 1).val, lt_of_lt_of_le (show (k 1).val < 128 from (k 1).isLt) (by omega)⟩))
    (mag (T (k 0) ⟨128 + (k 1).val, by have h : (k 1).val < 128 := (k 1).isLt; omega⟩)))

/-- The reciprocal of a row's power of two, on every lane. -/
def inverse (A : Vec Ideal S1024x128 .f32) : Vec Ideal S1024x128 .f32 := fun k =>
  Exponent.word (IntOp.subi 127#32 (Exponent.kExp (top A (k 0))))

/-- The row's power of two. -/
def power (A : Vec Ideal S1024x128 .f32) (r : Fin 1024) : EReal :=
  Exponent.word (IntOp.addi (Exponent.kExp (top A r)) 127#32)

/-- The powers of two of the row block as the kernel lays them out. -/
def powers (A : Vec Ideal S1024x128 .f32) : Vec Ideal S1x8x128 .f32 := fun k =>
  power A ⟨128 * (k 1).val + (k 2).val, by
    have h1 : (k 1).val < 8 := (k 1).isLt
    have h2 : (k 2).val < 128 := (k 2).isLt
    omega⟩

/-- The codes of tile `j` of the row block. -/
def codes (j : Fin 36) (Y : Vec Ideal S1024x9216 .f32) (I : Vec Ideal S1024x128 .f32) : Vec Ideal S1024x256 .fp8e4m3 := fun k =>
  clip (Y (ix2 (k 0) ⟨256 * j.val + (k 1).val, by have h : (k 1).val < 256 := (k 1).isLt; omega⟩) * I (ix2 (k 0) (lane (k 1))))

/-- No maximum taken yet. -/
def zeros : Vec Ideal S1024x128 .f32 := fun _ => 0

/-! ## The offsets of the tile's stores and loads -/

theorem off2_eq (i : grid0.Coords) : k0_off2 i = ![0, 256 * (i 1).val] := by
  have h : ∀ j : Fin 36, (![0, (Idealize.ShloMosaic.Scalar.indexCast (Idealize.ShloMosaic.IntOp.muli (BitVec.ofNat 32 j.val) 256#32)).toNat] : Fin 2 → ℕ) = ![0, 256 * j.val] := by
    decide +kernel
  exact h (i 1)
theorem off3_eq (i : grid0.Coords) : k0_off3 i = ![256, 256 * (i 1).val] := by
  have h : ∀ j : Fin 36, (![256, (Idealize.ShloMosaic.Scalar.indexCast (Idealize.ShloMosaic.IntOp.muli (BitVec.ofNat 32 j.val) 256#32)).toNat] : Fin 2 → ℕ) = ![256, 256 * j.val] := by
    decide +kernel
  exact h (i 1)
theorem off4_eq (i : grid0.Coords) : k0_off4 i = ![512, 256 * (i 1).val] := by
  have h : ∀ j : Fin 36, (![512, (Idealize.ShloMosaic.Scalar.indexCast (Idealize.ShloMosaic.IntOp.muli (BitVec.ofNat 32 j.val) 256#32)).toNat] : Fin 2 → ℕ) = ![512, 256 * j.val] := by
    decide +kernel
  exact h (i 1)
theorem off5_eq (i : grid0.Coords) : k0_off5 i = ![768, 256 * (i 1).val] := by
  have h : ∀ j : Fin 36, (![768, (Idealize.ShloMosaic.Scalar.indexCast (Idealize.ShloMosaic.IntOp.muli (BitVec.ofNat 32 j.val) 256#32)).toNat] : Fin 2 → ℕ) = ![768, 256 * j.val] := by
    decide +kernel
  exact h (i 1)
theorem off1_eq (i : grid0.Coords) : k0_off1 i 0#32 = ![0, 256 * (i 1).val + 0] := by
  have h : ∀ j : Fin 36, (![0, (Idealize.ShloMosaic.Scalar.indexCast (Idealize.ShloMosaic.IntOp.addi (Idealize.ShloMosaic.IntOp.muli (BitVec.ofNat 32 j.val) 256#32) 0#32)).toNat] : Fin 2 → ℕ) = ![0, 256 * j.val + 0] := by
    decide +kernel
  exact h (i 1)
theorem off1_eq' (i : grid0.Coords) : k0_off1 i 128#32 = ![0, 256 * (i 1).val + 128] := by
  have h : ∀ j : Fin 36, (![0, (Idealize.ShloMosaic.Scalar.indexCast (Idealize.ShloMosaic.IntOp.addi (Idealize.ShloMosaic.IntOp.muli (BitVec.ofNat 32 j.val) 256#32) 128#32)).toNat] : Fin 2 → ℕ) = ![0, 256 * j.val + 128] := by
    decide +kernel
  exact h (i 1)

/-! ## The loads of the tile's operands -/

section Operands
variable (arg2 : Memref sig .tc .vmem S1024x7168 .fp8e4m3) (harg2 : arg2.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole)
    (x0 : Vec Ideal S1024x7168 .fp8e4m3) (x2 : Vec Ideal S7168x256 .fp8e4m3) (x3 : Vec Ideal S7168x256 .fp8e4m3) (x4 : Vec Ideal S1x1x256 .f32) (x5 : Vec Ideal S1x1x256 .f32)

/-- The 256 rows of activations from row `o`. -/
abbrev ldX (o : ℕ) (inb : ∀ a, (![o, 0] : Fin 2 → ℕ) a + S256x7168.size a ≤ S1024x7168.size a) : Vec Ideal S256x7168 .fp8e4m3 :=
  View.readAt (Elt Ideal) arg2.view (Rect.unit (s := S1024x7168) ![o, 0] S256x7168.size inb).toLoadRect (harg2.unread x0)
/-- The gate's weights. -/
abbrev ldG (inb : ∀ a, (![0, 0] : Fin 2 → ℕ) a + S7168x256.size a ≤ S7168x256.size a) : Vec Ideal S7168x256 .fp8e4m3 :=
  View.readAt (Elt Ideal) arg4.view (Rect.unit (s := S7168x256) ![0, 0] S7168x256.size inb).toLoadRect (harg4.unread x2)
/-- A row of column scales. -/
abbrev ldS (inb : ∀ a, (![0, 0, 0] : Fin 3 → ℕ) a + S1x1x256.size a ≤ S1x1x256.size a) : Vec Ideal S1x1x256 .f32 :=
  View.readAt (Elt Ideal) arg6.view (Rect.unit (s := S1x1x256) ![0, 0, 0] S1x1x256.size inb).toLoadRect (harg6.unread x4)

theorem tile_rows (X : Vec Ideal S1024x128 .f32) (o : ℕ) (ho : o + 256 ≤ 1024) (d : Vec Ideal S256x128 .f32)
    (hd : ∀ (r : Fin 256) k, d (ix2 r k) = X (ix2 ⟨o + r.val, by omega⟩ k)) (i2 i4 i5 i6 i7) (r l : Fin 256) :
    k0_pay34 (ldX arg2 harg2 x0 o i2) (ldG arg4 harg4 x2 i4) (ldG arg5 harg5 x3 i5) d (ldS arg6 harg6 x4 i6) (ldS arg7 harg7 x5 i7) (ix2 r l)
      = tile x0 x2 x3 X x4 x5 ⟨o + r.val, by omega⟩ l := by
  have e4 : ldG arg4 harg4 x2 i4 = x2 := load_all2 arg4 harg4 x2 i4
  have e5 : ldG arg5 harg5 x3 i5 = x3 := load_all2 arg5 harg5 x3 i5
  have e6 : ldS arg6 harg6 x4 i6 = x4 := load_all3 arg6 harg6 x4 i6
  have e7 : ldS arg7 harg7 x5 i7 = x5 := load_all3 arg7 harg7 x5 i7
  rw [e4, e5, e6, e7]
  exact pay34_rows x0 X o ho _ _ _ d _ _ (fun r k => load_rows arg2 harg2 x0 o i2 r k (by omega)) hd r l

theorem max_rows (X M : Vec Ideal S1024x128 .f32) (o : ℕ) (ho : o + 256 ≤ 1024) (d g : Vec Ideal S256x128 .f32)
    (hd : ∀ (r : Fin 256) k, d (ix2 r k) = X (ix2 ⟨o + r.val, by omega⟩ k))
    (hg : ∀ (r : Fin 256) k, g (ix2 r k) = M (ix2 ⟨o + r.val, by omega⟩ k)) (i2 i4 i5 i6 i7) (r : Fin 256) (l : Fin 128) :
    k0_pay36 (k0_pay35 (ldX arg2 harg2 x0 o i2) (ldG arg4 harg4 x2 i4) (ldG arg5 harg5 x3 i5) d (ldS arg6 harg6 x4 i6) (ldS arg7 harg7 x5 i7) g) (ix2 r l)
      = putMax (tile x0 x2 x3 X x4 x5) M (ix2 ⟨o + r.val, by omega⟩ l) := by
  have e4 : ldG arg4 harg4 x2 i4 = x2 := load_all2 arg4 harg4 x2 i4
  have e5 : ldG arg5 harg5 x3 i5 = x3 := load_all2 arg5 harg5 x3 i5
  have e6 : ldS arg6 harg6 x4 i6 = x4 := load_all3 arg6 harg6 x4 i6
  have e7 : ldS arg7 harg7 x5 i7 = x5 := load_all3 arg7 harg7 x5 i7
  rw [e4, e5, e6, e7]
  exact pay36_rows x0 X M o ho _ _ _ d _ _ g (fun r k => load_rows arg2 harg2 x0 o i2 r k (by omega)) hd hg r l

/-- The row block after the four stores of a tile. -/
theorem tile_written (i : grid0.Coords) (X : Vec Ideal S1024x128 .f32) (arg10 : Memref sig .tc .vmem S1024x9216 .f32) (harg10 : arg10.IsWhole)
    (Y : Vec Ideal S1024x9216 .f32) (d0 d1 d2 d3 : Vec Ideal S256x128 .f32)
    (h0 : ∀ (r : Fin 256) k, d0 (ix2 r k) = X (ix2 ⟨0 + r.val, by omega⟩ k))
    (h1 : ∀ (r : Fin 256) k, d1 (ix2 r k) = X (ix2 ⟨256 + r.val, by omega⟩ k))
    (h2 : ∀ (r : Fin 256) k, d2 (ix2 r k) = X (ix2 ⟨512 + r.val, by omega⟩ k))
    (h3 : ∀ (r : Fin 256) k, d3 (ix2 r k) = X (ix2 ⟨768 + r.val, by omega⟩ k)) (i20 i21 i22 i23 i4 i5 i6 i7)
    (j0 : ∀ a, k0_off2 i a + S256x256.size a ≤ S1024x9216.size a) (j1 : ∀ a, k0_off3 i a + S256x256.size a ≤ S1024x9216.size a)
    (j2 : ∀ a, k0_off4 i a + S256x256.size a ≤ S1024x9216.size a) (j3 : ∀ a, k0_off5 i a + S256x256.size a ≤ S1024x9216.size a) :
    arg10.view.read (Elt Ideal) (arg10.view.writes (Elt Ideal) (harg10.unread Y) [
      (⟨Rect.unit (s := S1024x9216) (k0_off5 i) S256x256.size j3, k0_pay46 (ldX arg2 harg2 x0 768 i23) (ldG arg4 harg4 x2 i4) (ldG arg5 harg5 x3 i5) d3 (ldS arg6 harg6 x4 i6) (ldS arg7 harg7 x5 i7)⟩ : View.Piece (Elt Ideal) S1024x9216 .f32),
      (⟨Rect.unit (s := S1024x9216) (k0_off4 i) S256x256.size j2, k0_pay42 (ldX arg2 harg2 x0 512 i22) (ldG arg4 harg4 x2 i4) (ldG arg5 harg5 x3 i5) d2 (ldS arg6 harg6 x4 i6) (ldS arg7 harg7 x5 i7)⟩ : View.Piece (Elt Ideal) S1024x9216 .f32),
      (⟨Rect.unit (s := S1024x9216) (k0_off3 i) S256x256.size j1, k0_pay38 (ldX arg2 harg2 x0 256 i21) (ldG arg4 harg4 x2 i4) (ldG arg5 harg5 x3 i5) d1 (ldS arg6 harg6 x4 i6) (ldS arg7 harg7 x5 i7)⟩ : View.Piece (Elt Ideal) S1024x9216 .f32),
      (⟨Rect.unit (s := S1024x9216) (k0_off2 i) S256x256.size j0, k0_pay34 (ldX arg2 harg2 x0 0 i20) (ldG arg4 harg4 x2 i4) (ldG arg5 harg5 x3 i5) d0 (ldS arg6 harg6 x4 i6) (ldS arg7 harg7 x5 i7)⟩ : View.Piece (Elt Ideal) S1024x9216 .f32)])
      = putTile (i 1).val (tile x0 x2 x3 X x4 x5) Y := by
  funext k
  rw [eq_ix2 k]
  rw [pay38_eq, pay42_eq, pay46_eq]
  refine (read_tile (Val := Elt Ideal) arg10.view (harg10.unread Y) (tile x0 x2 x3 X x4 x5) (256 * (i 1).val) (k0_off2 i) (k0_off3 i) (k0_off4 i) (k0_off5 i)
    (off2_eq i) (off3_eq i) (off4_eq i) (off5_eq i) j0 j1 j2 j3 _ _ _ _
    (fun r l => tile_rows arg2 harg2 arg4 harg4 arg5 harg5 arg6 harg6 arg7 harg7 x0 x2 x3 x4 x5 X 0 (by omega) d0 h0 _ _ _ _ _ r l)
    (fun r l => tile_rows arg2 harg2 arg4 harg4 arg5 harg5 arg6 harg6 arg7 harg7 x0 x2 x3 x4 x5 X 256 (by omega) d1 h1 _ _ _ _ _ r l)
    (fun r l => tile_rows arg2 harg2 arg4 harg4 arg5 harg5 arg6 harg6 arg7 harg7 x0 x2 x3 x4 x5 X 512 (by omega) d2 h2 _ _ _ _ _ r l)
    (fun r l => tile_rows arg2 harg2 arg4 harg4 arg5 harg5 arg6 harg6 arg7 harg7 x0 x2 x3 x4 x5 X 768 (by omega) d3 h3 _ _ _ _ _ r l) (k 0) (k 1)).trans ?_
  rw [harg10.read_unread]
  rfl

/-- The lane maxima after the four stores of a tile, whatever was written before them. -/
theorem max_written (X M : Vec Ideal S1024x128 .f32) (arg13 : Memref sig .tc .vmem S1024x128 .f32) (f : arg13.view.ty.Contents (Elt Ideal))
    (d0 d1 d2 d3 g0 g1 g2 g3 : Vec Ideal S256x128 .f32) (L : List (View.Piece (Elt Ideal) S1024x128 .f32))
    (h0 : ∀ (r : Fin 256) k, d0 (ix2 r k) = X (ix2 ⟨0 + r.val, by omega⟩ k))
    (h1 : ∀ (r : Fin 256) k, d1 (ix2 r k) = X (ix2 ⟨256 + r.val, by omega⟩ k))
    (h2 : ∀ (r : Fin 256) k, d2 (ix2 r k) = X (ix2 ⟨512 + r.val, by omega⟩ k))
    (h3 : ∀ (r : Fin 256) k, d3 (ix2 r k) = X (ix2 ⟨768 + r.val, by omega⟩ k))
    (m0 : ∀ (r : Fin 256) k, g0 (ix2 r k) = M (ix2 ⟨0 + r.val, by omega⟩ k))
    (m1 : ∀ (r : Fin 256) k, g1 (ix2 r k) = M (ix2 ⟨256 + r.val, by omega⟩ k))
    (m2 : ∀ (r : Fin 256) k, g2 (ix2 r k) = M (ix2 ⟨512 + r.val, by omega⟩ k))
    (m3 : ∀ (r : Fin 256) k, g3 (ix2 r k) = M (ix2 ⟨768 + r.val, by omega⟩ k)) (i20 i21 i22 i23 i4 i5 i6 i7)
    (j0 : ∀ a, (![0, 0] : Fin 2 → ℕ) a + S256x128.size a ≤ S1024x128.size a) (j1 : ∀ a, (![256, 0] : Fin 2 → ℕ) a + S256x128.size a ≤ S1024x128.size a)
    (j2 : ∀ a, (![512, 0] : Fin 2 → ℕ) a + S256x128.size a ≤ S1024x128.size a) (j3 : ∀ a, (![768, 0] : Fin 2 → ℕ) a + S256x128.size a ≤ S1024x128.size a) :
    arg13.view.read (Elt Ideal) (arg13.view.writes (Elt Ideal) f (
      (⟨Rect.unit (s := S1024x128) ![768, 0] S256x128.size j3, k0_pay4 (k0_pay47 (ldX arg2 harg2 x0 768 i23) (ldG arg4 harg4 x2 i4) (ldG arg5 harg5 x3 i5) d3 (ldS arg6 harg6 x4 i6) (ldS arg7 harg7 x5 i7)) (k0_pay48 (ldX arg2 harg2 x0 768 i23) (ldG arg4 harg4 x2 i4) (ldG arg5 harg5 x3 i5) d3 (ldS arg6 harg6 x4 i6) (ldS arg7 harg7 x5 i7)) g3⟩ : View.Piece (Elt Ideal) S1024x128 .f32)
      :: (⟨Rect.unit (s := S1024x128) ![512, 0] S256x128.size j2, k0_pay44 (k0_pay43 (ldX arg2 harg2 x0 512 i22) (ldG arg4 harg4 x2 i4) (ldG arg5 harg5 x3 i5) d2 (ldS arg6 harg6 x4 i6) (ldS arg7 harg7 x5 i7)) g2⟩ : View.Piece (Elt Ideal) S1024x128 .f32)
      :: (⟨Rect.unit (s := S1024x128) ![256, 0] S256x128.size j1, k0_pay40 (k0_pay39 (ldX arg2 harg2 x0 256 i21) (ldG arg4 harg4 x2 i4) (ldG arg5 harg5 x3 i5) d1 (ldS arg6 harg6 x4 i6) (ldS arg7 harg7 x5 i7) g1)⟩ : View.Piece (Elt Ideal) S1024x128 .f32)
      :: (⟨Rect.unit (s := S1024x128) ![0, 0] S256x128.size j0, k0_pay36 (k0_pay35 (ldX arg2 harg2 x0 0 i20) (ldG arg4 harg4 x2 i4) (ldG arg5 harg5 x3 i5) d0 (ldS arg6 harg6 x4 i6) (ldS arg7 harg7 x5 i7) g0)⟩ : View.Piece (Elt Ideal) S1024x128 .f32)
      :: L)) = putMax (tile x0 x2 x3 X x4 x5) M := by
  funext k
  rw [eq_ix2 k]
  rw [pay40_eq, pay44_eq, pay4_eq]
  exact read_rows4 (Val := Elt Ideal) arg13.view f (fun r l => putMax (tile x0 x2 x3 X x4 x5) M (ix2 r l)) j0 j1 j2 j3 _ _ _ _ L
    (fun r l => max_rows arg2 harg2 arg4 harg4 arg5 harg5 arg6 harg6 arg7 harg7 x0 x2 x3 x4 x5 X M 0 (by omega) d0 g0 h0 m0 _ _ _ _ _ r l)
    (fun r l => max_rows arg2 harg2 arg4 harg4 arg5 harg5 arg6 harg6 arg7 harg7 x0 x2 x3 x4 x5 X M 256 (by omega) d1 g1 h1 m1 _ _ _ _ _ r l)
    (fun r l => max_rows arg2 harg2 arg4 harg4 arg5 harg5 arg6 harg6 arg7 harg7 x0 x2 x3 x4 x5 X M 512 (by omega) d2 g2 h2 m2 _ _ _ _ _ r l)
    (fun r l => max_rows arg2 harg2 arg4 harg4 arg5 harg5 arg6 harg6 arg7 harg7 x0 x2 x3 x4 x5 X M 768 (by omega) d3 g3 h3 m3 _ _ _ _ _ r l) (k 0) (k 1)

end Operands

/-! ## The spread scales -/

section Spreads
variable (arg3 : Memref sig .tc .vmem S1x8x128 .f32) (harg3 : arg3.IsWhole) (x1 : Vec Ideal S1x8x128 .f32)

/-- One row of 128 scales. -/
abbrev ldR (s : ℕ) (inb : ∀ a, (![0, s, 0] : Fin 3 → ℕ) a + S1x1x128.size a ≤ S1x8x128.size a) : Vec Ideal S1x1x128 .f32 :=
  View.readAt (Elt Ideal) arg3.view (Rect.unit (s := S1x8x128) ![0, s, 0] S1x1x128.size inb).toLoadRect (harg3.unread x1)

theorem ldR_spread (s : ℕ) (hs : s < 8) (inb) (r l : Fin 128) (o : ℕ) (ho : o = 128 * s) :
    ldR arg3 harg3 x1 s inb (ix3 0 0 r) = spread x1 (ix2 ⟨o + r.val, by omega⟩ l) := by
  refine (load_row3 arg3 harg3 x1 s inb r (by omega) hs).trans ?_
  unfold spread
  subst ho
  congr 2
  · apply Fin.ext; show s = (128 * s + r.val) / 128; omega
  · apply Fin.ext; show r.val = (128 * s + r.val) % 128; omega

theorem spread_written (v : View sig .tc .vmem S1024x128 .f32) (f : v.ty.Contents (Elt Ideal)) (i0 i1 i2 i3 i4 i5 i6 i7)
    (j0 : ∀ a, (![0, 0] : Fin 2 → ℕ) a + S128x128.size a ≤ S1024x128.size a) (j1 : ∀ a, (![128, 0] : Fin 2 → ℕ) a + S128x128.size a ≤ S1024x128.size a)
    (j2 : ∀ a, (![256, 0] : Fin 2 → ℕ) a + S128x128.size a ≤ S1024x128.size a) (j3 : ∀ a, (![384, 0] : Fin 2 → ℕ) a + S128x128.size a ≤ S1024x128.size a)
    (j4 : ∀ a, (![512, 0] : Fin 2 → ℕ) a + S128x128.size a ≤ S1024x128.size a) (j5 : ∀ a, (![640, 0] : Fin 2 → ℕ) a + S128x128.size a ≤ S1024x128.size a)
    (j6 : ∀ a, (![768, 0] : Fin 2 → ℕ) a + S128x128.size a ≤ S1024x128.size a) (j7 : ∀ a, (![896, 0] : Fin 2 → ℕ) a + S128x128.size a ≤ S1024x128.size a) :
    v.read (Elt Ideal) (v.writes (Elt Ideal) f [
      (⟨Rect.unit (s := S1024x128) ![896, 0] S128x128.size j7, k0_pay31 (ldR arg3 harg3 x1 7 i7)⟩ : View.Piece (Elt Ideal) S1024x128 .f32),
      (⟨Rect.unit (s := S1024x128) ![768, 0] S128x128.size j6, k0_pay30 (ldR arg3 harg3 x1 6 i6)⟩ : View.Piece (Elt Ideal) S1024x128 .f32),
      (⟨Rect.unit (s := S1024x128) ![640, 0] S128x128.size j5, k0_pay29 (ldR arg3 harg3 x1 5 i5)⟩ : View.Piece (Elt Ideal) S1024x128 .f32),
      (⟨Rect.unit (s := S1024x128) ![512, 0] S128x128.size j4, k0_pay28 (ldR arg3 harg3 x1 4 i4)⟩ : View.Piece (Elt Ideal) S1024x128 .f32),
      (⟨Rect.unit (s := S1024x128) ![384, 0] S128x128.size j3, k0_pay27 (k0_pay26 (ldR arg3 harg3 x1 3 i3))⟩ : View.Piece (Elt Ideal) S1024x128 .f32),
      (⟨Rect.unit (s := S1024x128) ![256, 0] S128x128.size j2, k0_pay25 (ldR arg3 harg3 x1 2 i2)⟩ : View.Piece (Elt Ideal) S1024x128 .f32),
      (⟨Rect.unit (s := S1024x128) ![128, 0] S128x128.size j1, k0_pay24 (ldR arg3 harg3 x1 1 i1)⟩ : View.Piece (Elt Ideal) S1024x128 .f32),
      (⟨Rect.unit (s := S1024x128) ![0, 0] S128x128.size j0, k0_pay23 (ldR arg3 harg3 x1 0 i0)⟩ : View.Piece (Elt Ideal) S1024x128 .f32)])
      = spread x1 := by
  funext k
  rw [eq_ix2 k]
  exact read_rows8 (Val := Elt Ideal) v f (fun r l => spread x1 (ix2 r l)) j0 j1 j2 j3 j4 j5 j6 j7 _ _ _ _ _ _ _ _
    (fun r l => (pay23_apply _ r l).trans (ldR_spread arg3 harg3 x1 0 (by omega) _ r l 0 rfl))
    (fun r l => (pay24_apply _ r l).trans (ldR_spread arg3 harg3 x1 1 (by omega) _ r l 128 rfl))
    (fun r l => (pay25_apply _ r l).trans (ldR_spread arg3 harg3 x1 2 (by omega) _ r l 256 rfl))
    (fun r l => (pay27_apply _ r l).trans (ldR_spread arg3 harg3 x1 3 (by omega) _ r l 384 rfl))
    (fun r l => (pay28_apply _ r l).trans (ldR_spread arg3 harg3 x1 4 (by omega) _ r l 512 rfl))
    (fun r l => (pay29_apply _ r l).trans (ldR_spread arg3 harg3 x1 5 (by omega) _ r l 640 rfl))
    (fun r l => (pay30_apply _ r l).trans (ldR_spread arg3 harg3 x1 6 (by omega) _ r l 768 rfl))
    (fun r l => (pay31_apply _ r l).trans (ldR_spread arg3 harg3 x1 7 (by omega) _ r l 896 rfl)) (k 0) (k 1)

end Spreads

/-- Rows read back from a list of stores whose contents are known. -/
theorem cov_rows (v : View sig .tc .vmem S1024x128 .f32) (L : List (View.Piece (Elt Ideal) S1024x128 .f32)) (X : Vec Ideal S1024x128 .f32)
    (h : v.read (Elt Ideal) (v.writes (Elt Ideal) v.junk L) = X) (o : ℕ) (ho : o + 256 ≤ 1024)
    (inb : ∀ a, (![o, 0] : Fin 2 → ℕ) a + S256x128.size a ≤ S1024x128.size a) (r : Fin 256) (k : Fin 128) :
    v.readCov L (Rect.unit (s := S1024x128) ![o, 0] S256x128.size inb).toLoadRect (ix2 r k) = X (ix2 ⟨o + r.val, by omega⟩ k) := by
  show v.read (Elt Ideal) (v.writes (Elt Ideal) v.junk L) ((Rect.unit (s := S1024x128) ![o, 0] S256x128.size inb).toLoadRect.idx (ix2 r k)) = _
  rw [h]
  exact congrArg X (idx_rows o inb r k (by omega) k.isLt)

/-! ## The zeros under the blocks of maxima -/

/-- From row `o` on the buffer still holds zeros. -/
def ZeroFrom (v : View sig .tc .vmem S1024x128 .f32) (L : List (View.Piece (Elt Ideal) S1024x128 .f32)) (o : ℕ) : Prop :=
  ∀ (r : Fin 1024) (l : Fin 128), o ≤ r.val → v.read (Elt Ideal) (v.writes (Elt Ideal) v.junk L) (ix2 r l) = 0

theorem zeros_written (v : View sig .tc .vmem S1024x128 .f32) (f : v.ty.Contents (Elt Ideal))
    (j : ∀ a, (![0, 0] : Fin 2 → ℕ) a + S1024x128.size a ≤ S1024x128.size a) :
    v.read (Elt Ideal) (v.writes (Elt Ideal) f [(⟨Rect.unit (s := S1024x128) ![0, 0] S1024x128.size j, k0_pay1 (k0_pay32 (F := Ideal))⟩ : View.Piece (Elt Ideal) S1024x128 .f32)]) = zeros := by
  funext k
  refine (read_all2 (Val := Elt Ideal) v f j _ _ k).trans ?_
  rw [eq_ix2 k]
  exact pay1_zero _ _

theorem ZeroFrom.base (v : View sig .tc .vmem S1024x128 .f32) (j : ∀ a, (![0, 0] : Fin 2 → ℕ) a + S1024x128.size a ≤ S1024x128.size a) :
    ZeroFrom v [(⟨Rect.unit (s := S1024x128) ![0, 0] S1024x128.size j, k0_pay1 (k0_pay32 (F := Ideal))⟩ : View.Piece (Elt Ideal) S1024x128 .f32)] 0 :=
  fun r l _ => congrFun (zeros_written v v.junk j) (ix2 r l)

theorem ZeroFrom.cons {v : View sig .tc .vmem S1024x128 .f32} {L : List (View.Piece (Elt Ideal) S1024x128 .f32)} {o : ℕ} (h : ZeroFrom v L o)
    (j : ∀ a, (![o, 0] : Fin 2 → ℕ) a + S256x128.size a ≤ S1024x128.size a) (w : Vec Ideal S256x128 .f32) :
    ZeroFrom v ((⟨Rect.unit (s := S1024x128) ![o, 0] S256x128.size j, w⟩ : View.Piece (Elt Ideal) S1024x128 .f32) :: L) (o + 256) := fun r l hr => by
  rw [read_rows (Val := Elt Ideal) v v.junk o j w L r l, dif_neg (by omega)]
  exact h r l (by omega)

theorem ZeroFrom.rows {v : View sig .tc .vmem S1024x128 .f32} {L : List (View.Piece (Elt Ideal) S1024x128 .f32)} {o : ℕ} (h : ZeroFrom v L o) (ho : o + 256 ≤ 1024)
    (inb : ∀ a, (![o, 0] : Fin 2 → ℕ) a + S256x128.size a ≤ S1024x128.size a) (r : Fin 256) (k : Fin 128) :
    v.readCov L (Rect.unit (s := S1024x128) ![o, 0] S256x128.size inb).toLoadRect (ix2 r k) = zeros (ix2 ⟨o + r.val, by omega⟩ k) := by
  show v.read (Elt Ideal) (v.writes (Elt Ideal) v.junk L) ((Rect.unit (s := S1024x128) ![o, 0] S256x128.size inb).toLoadRect.idx (ix2 r k)) = _
  rw [idx_rows o inb r k (by omega) k.isLt]
  exact h _ _ (by show o ≤ o + r.val; omega)

/-! ## The quantiser's buffers -/

theorem inverse_written (v : View sig .tc .vmem S1024x128 .f32) (f : v.ty.Contents (Elt Ideal)) (A B : Vec Ideal S1024x128 .f32) (h : B = A)
    (j : ∀ a, (![0, 0] : Fin 2 → ℕ) a + S1024x128.size a ≤ S1024x128.size a) :
    v.read (Elt Ideal) (v.writes (Elt Ideal) f [(⟨Rect.unit (s := S1024x128) ![0, 0] S1024x128.size j,
      k0_pay13 (k0_pay5 B) (k0_pay6 B) (k0_pay10 (k0_pay7 B) (k0_pay8 B) (k0_pay9 B) 23#32) 23#32⟩ : View.Piece (Elt Ideal) S1024x128 .f32)]) = inverse A := by
  subst h
  funext k
  refine (read_all2 (Val := Elt Ideal) v f j _ _ k).trans ?_
  rw [eq_ix2 k]
  exact pay13_exp _ _ _

/-- The whole buffer read back after the reciprocal's store. -/
theorem inverse_read (arg12 : Memref sig .tc .vmem S1024x128 .f32) (A B : Vec Ideal S1024x128 .f32)
    (j : ∀ a, (![0, 0] : Fin 2 → ℕ) a + S1024x128.size a ≤ S1024x128.size a)
    (j' : ∀ a, (![0, 0] : Fin 2 → ℕ) a + S1024x128.size a ≤ S1024x128.size a) (h : B = A) :
    arg12.view.readCov [(⟨Rect.unit (s := S1024x128) ![0, 0] S1024x128.size j,
      k0_pay13 (k0_pay5 B) (k0_pay6 B) (k0_pay10 (k0_pay7 B) (k0_pay8 B) (k0_pay9 B) 23#32) 23#32⟩ : View.Piece (Elt Ideal) S1024x128 .f32)]
      (Rect.unit (s := S1024x128) ![0, 0] S1024x128.size j').toLoadRect = inverse A := by
  funext k
  rw [eq_ix2 (n0 := 1024) (n1 := 128) k]
  show arg12.view.read (Elt Ideal) (arg12.view.writes (Elt Ideal) arg12.view.junk _) ((Rect.unit (s := S1024x128) ![0, 0] S1024x128.size j').toLoadRect.idx (ix2 (k 0) (k 1))) = _
  rw [inverse_written arg12.view arg12.view.junk A B h j]
  refine congrArg (inverse A) ((idx_rows 0 j' (k 0) (k 1) (by have h : (k 0).val < 1024 := (k 0).isLt; omega) (k 1).isLt).trans ?_)
  exact congrArg (fun r => ix2 r (k 1)) (Fin.ext (Nat.zero_add _))

theorem powers_written (v : View sig .tc .vmem S1x8x128 .f32) (f : v.ty.Contents (Elt Ideal)) (A B : Vec Ideal S1024x128 .f32) (h : B = A)
    (j : ∀ a, (![0, 0, 0] : Fin 3 → ℕ) a + S1x8x128.size a ≤ S1x8x128.size a) :
    v.read (Elt Ideal) (v.writes (Elt Ideal) f [(⟨Rect.unit (s := S1x8x128) ![0, 0, 0] S1x8x128.size j,
      k0_pay22 (k0_pay14 (k0_pay5 B) (k0_pay6 B) (k0_pay10 (k0_pay7 B) (k0_pay8 B) (k0_pay9 B) 23#32) 23#32)
        (k0_pay15 (k0_pay5 B) (k0_pay6 B) (k0_pay10 (k0_pay7 B) (k0_pay8 B) (k0_pay9 B) 23#32) 23#32)
        (k0_pay16 (k0_pay5 B) (k0_pay6 B) (k0_pay10 (k0_pay7 B) (k0_pay8 B) (k0_pay9 B) 23#32) 23#32)
        (k0_pay17 (k0_pay5 B) (k0_pay6 B) (k0_pay10 (k0_pay7 B) (k0_pay8 B) (k0_pay9 B) 23#32) 23#32)
        (k0_pay18 (k0_pay5 B) (k0_pay6 B) (k0_pay10 (k0_pay7 B) (k0_pay8 B) (k0_pay9 B) 23#32) 23#32)
        (k0_pay19 (k0_pay5 B) (k0_pay6 B) (k0_pay10 (k0_pay7 B) (k0_pay8 B) (k0_pay9 B) 23#32) 23#32)
        (k0_pay20 (k0_pay5 B) (k0_pay6 B) (k0_pay10 (k0_pay7 B) (k0_pay8 B) (k0_pay9 B) 23#32) 23#32)
        (k0_pay21 (k0_pay5 B) (k0_pay6 B) (k0_pay10 (k0_pay7 B) (k0_pay8 B) (k0_pay9 B) 23#32) 23#32)⟩ : View.Piece (Elt Ideal) S1x8x128 .f32)]) = powers A := by
  subst h
  funext k
  refine (read_all3 (Val := Elt Ideal) v f j _ _ k).trans ?_
  have e : k = ix3 0 (k 1) (k 2) := by
    funext a
    match a with
    | ⟨0, _⟩ => exact Fin.ext (Nat.lt_one_iff.mp (k 0).isLt)
    | ⟨1, _⟩ => rfl
    | ⟨2, _⟩ => rfl
  rw [e]
  exact pay22_apply _ _ _ _ _ _ _ _ (power B)
    (fun l => (pay14_apply _ _ _ _ l).trans (pay12_exp B _ _)) (fun l => (pay15_apply _ _ _ _ l).trans (pay12_exp B _ _))
    (fun l => (pay16_apply _ _ _ _ l).trans (pay12_exp B _ _)) (fun l => (pay17_apply _ _ _ _ l).trans (pay12_exp B _ _))
    (fun l => (pay18_apply _ _ _ _ l).trans (pay12_exp B _ _)) (fun l => (pay19_apply _ _ _ _ l).trans (pay12_exp B _ _))
    (fun l => (pay20_apply _ _ _ _ l).trans (pay12_exp B _ _)) (fun l => (pay21_apply _ _ _ _ l).trans (pay12_exp B _ _)) (k 1) (k 2)

theorem codes_written (i : grid0.Coords) (v : View sig .tc .vmem S1024x256 .fp8e4m3) (f : v.ty.Contents (Elt Ideal))
    (arg10 : Memref sig .tc .vmem S1024x9216 .f32) (harg10 : arg10.IsWhole) (Y : Vec Ideal S1024x9216 .f32) (I w : Vec Ideal S1024x128 .f32) (h : w = I)
    (j0 : ∀ a, (![0, 0] : Fin 2 → ℕ) a + S1024x128.size a ≤ S1024x256.size a) (j1 : ∀ a, (![0, 128] : Fin 2 → ℕ) a + S1024x128.size a ≤ S1024x256.size a)
    (q0 : ∀ a, k0_off1 i 0#32 a + S1024x128.size a ≤ S1024x9216.size a) (q1 : ∀ a, k0_off1 i 128#32 a + S1024x128.size a ≤ S1024x9216.size a) :
    v.read (Elt Ideal) (v.writes (Elt Ideal) f [
      (⟨Rect.unit (s := S1024x256) ![0, 128] S1024x128.size j1, k0_pay3 w (View.readAt (Elt Ideal) arg10.view (Rect.unit (s := S1024x9216) (k0_off1 i 128#32) S1024x128.size q1).toLoadRect (harg10.unread Y))⟩ : View.Piece (Elt Ideal) S1024x256 .fp8e4m3),
      (⟨Rect.unit (s := S1024x256) ![0, 0] S1024x128.size j0, k0_pay2 w (View.readAt (Elt Ideal) arg10.view (Rect.unit (s := S1024x9216) (k0_off1 i 0#32) S1024x128.size q0).toLoadRect (harg10.unread Y))⟩ : View.Piece (Elt Ideal) S1024x256 .fp8e4m3)])
      = codes (i 1) Y I := by
  subst h
  have hj : (i 1).val < 36 := (i 1).isLt
  funext k
  rw [eq_ix2 k]
  refine read_halves (Val := Elt Ideal) v f (fun r l => codes (i 1) Y w (ix2 r l)) j0 j1 _ _ (fun r l => ?_) (fun r l => ?_) (k 0) (k 1)
  · refine (pay2_apply _ _ r l).trans ?_
    rw [load_cols (Val := Elt Ideal) arg10 harg10 Y (k0_off1 i 0#32) (256 * (i 1).val + 0) (off1_eq i) q0 r l (by omega)]
    show clip _ = clip _
    congr 2
    · congr 1
      exact congrArg (ix2 r) (Fin.ext (by show 256 * (i 1).val + 0 + l.val = 256 * (i 1).val + (0 + l.val); omega))
    · congr 1
      exact congrArg (ix2 r) (Fin.ext (by show l.val = (0 + l.val) % 128; omega))
  · refine (pay3_apply _ _ r l).trans ?_
    rw [load_cols (Val := Elt Ideal) arg10 harg10 Y (k0_off1 i 128#32) (256 * (i 1).val + 128) (off1_eq' i) q1 r l (by omega)]
    show clip _ = clip _
    congr 2
    · congr 1
      exact congrArg (ix2 r) (Fin.ext (by show 256 * (i 1).val + 128 + l.val = 256 * (i 1).val + (128 + l.val); omega))
    · congr 1
      exact congrArg (ix2 r) (Fin.ext (by show l.val = (128 + l.val) % 128; omega))

end Cert.KernelIdeal.Own

end
-- ==== Proof.KStepA.lean ====
/- The kernel's body at the first point: what every buffer holds afterwards, in closed form. -/
module

public import proofs.«01_k».proof.Proof.KRunA
public import proofs.«01_k».proof.Proof.KWritten

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem leftA10 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg10.view.read (Elt Ideal) (arg10.view.writes (Elt Ideal) (harg10.unread y) (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).1) = putTile (i 1).val (tile x0 x2 x3 (spread x1) x4 x5) y := by
  unfold runA
  dsimp only
  exact tile_written arg2 harg2 arg4 harg4 arg5 harg5 arg6 harg6 arg7 harg7 x0 x2 x3 x4 x5 i (spread x1) arg10 harg10 y _ _ _ _ (fun r k => cov_rows arg11.view _ (spread x1) (spread_written arg3 harg3 x1 arg11.view arg11.view.junk _ _ _ _ _ _ _ _ _ _ _ _ _ _ _ _) 0 (by omega) _ r k) (fun r k => cov_rows arg11.view _ (spread x1) (spread_written arg3 harg3 x1 arg11.view arg11.view.junk _ _ _ _ _ _ _ _ _ _ _ _ _ _ _ _) 256 (by omega) _ r k) (fun r k => cov_rows arg11.view _ (spread x1) (spread_written arg3 harg3 x1 arg11.view arg11.view.junk _ _ _ _ _ _ _ _ _ _ _ _ _ _ _ _) 512 (by omega) _ r k) (fun r k => cov_rows arg11.view _ (spread x1) (spread_written arg3 harg3 x1 arg11.view arg11.view.junk _ _ _ _ _ _ _ _ _ _ _ _ _ _ _ _) 768 (by omega) _ r k) _ _ _ _ _ _ _ _ _ _ _ _

theorem leftA11 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg11.view.read (Elt Ideal) (arg11.view.writes (Elt Ideal) (harg11.unread x) (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.1) = spread x1 := by
  unfold runA
  dsimp only
  exact spread_written arg3 harg3 x1 arg11.view _ _ _ _ _ _ _ _ _ _ _ _ _ _ _ _ _

theorem leftA13 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg13.view.read (Elt Ideal) (arg13.view.writes (Elt Ideal) (harg13.unread a) (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.1) = putMax (tile x0 x2 x3 (spread x1) x4 x5) (zeros) := by
  unfold runA
  dsimp only
  exact max_written arg2 harg2 arg4 harg4 arg5 harg5 arg6 harg6 arg7 harg7 x0 x2 x3 x4 x5 (spread x1) (zeros) arg13 _ _ _ _ _ _ _ _ _ _ (fun r k => cov_rows arg11.view _ (spread x1) (spread_written arg3 harg3 x1 arg11.view arg11.view.junk _ _ _ _ _ _ _ _ _ _ _ _ _ _ _ _) 0 (by omega) _ r k) (fun r k => cov_rows arg11.view _ (spread x1) (spread_written arg3 harg3 x1 arg11.view arg11.view.junk _ _ _ _ _ _ _ _ _ _ _ _ _ _ _ _) 256 (by omega) _ r k) (fun r k => cov_rows arg11.view _ (spread x1) (spread_written arg3 harg3 x1 arg11.view arg11.view.junk _ _ _ _ _ _ _ _ _ _ _ _ _ _ _ _) 512 (by omega) _ r k) (fun r k => cov_rows arg11.view _ (spread x1) (spread_written arg3 harg3 x1 arg11.view arg11.view.junk _ _ _ _ _ _ _ _ _ _ _ _ _ _ _ _) 768 (by omega) _ r k) (fun r k => (ZeroFrom.base arg13.view _).rows (by omega) _ r k) (fun r k => ((ZeroFrom.base arg13.view _).cons _ _).rows (by omega) _ r k) (fun r k => (((ZeroFrom.base arg13.view _).cons _ _).cons _ _).rows (by omega) _ r k) (fun r k => ((((ZeroFrom.base arg13.view _).cons _ _).cons _ _).cons _ _).rows (by omega) _ r k) _ _ _ _ _ _ _ _ _ _ _ _

/-- The body's triple in this case, with every buffer's new contents in closed form. -/
theorem stepA (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (o6) ∗ owns (c : Thread nD τ) arg9 fullShare (o7) ∗ owns (c : Thread nD τ) arg10 fullShare (putTile (i 1).val (tile x0 x2 x3 (spread x1) x4 x5) y) ∗ owns (c : Thread nD τ) arg11 fullShare (spread x1) ∗ owns (c : Thread nD τ) arg12 fullShare (v) ∗ owns (c : Thread nD τ) arg13 fullShare (putMax (tile x0 x2 x3 (spread x1) x4 x5) (zeros))) -∗ K ⟨⟩))
      ⊢ wp frame (wpE (defs₀ (F := Ideal)) Variants.none c none) E (cc0_swiglu_fp8 i arg2 harg2 arg3 harg3 arg4 harg4 arg5 harg5 arg6 harg6 arg7 harg7 arg8 harg8 arg9 harg9 arg10 harg10 arg11 harg11 arg12 harg12 arg13 harg13) K := by
  have h := (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2 E K
  rw [← leftA10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftA13 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftA11 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a]
  exact h

end Cert.KernelIdeal.Own

end
-- ==== Proof.KRunB.lean ====
/- The kernel's whole body at one kind of grid point — later points of the first row block: a tile is computed — with every buffer
   it is given at a named content: the pieces its stores leave in each buffer they reach, and the body's triple. -/
module

public import proofs.«01_k».proof.Proof.KRunA

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- The body's run at later points of the first row block: a tile is computed. -/
noncomputable def runB (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (o6 : Vec F S1024x256 .fp8e4m3) (o7 : Vec F S1x8x128 .f32) (y : Vec F S1024x9216 .f32) (x : Vec F S1024x128 .f32) (v : Vec F S1024x128 .f32) (a : Vec F S1024x128 .f32) :
    Σ' (L10 : List (View.Piece (Elt F) S1024x9216 .f32)), { L13 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (o6) ∗ owns (c : Thread nD τ) arg9 fullShare (o7) ∗ owns (c : Thread nD τ) arg10 fullShare (arg10.view.read (Elt F) (arg10.view.writes (Elt F) (harg10.unread y) L10)) ∗ owns (c : Thread nD τ) arg11 fullShare (x) ∗ owns (c : Thread nD τ) arg12 fullShare (v) ∗ owns (c : Thread nD τ) arg13 fullShare (arg13.view.read (Elt F) (arg13.view.writes (Elt F) (harg13.unread a) L13))) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?L10, ?L13, fun E K => ?run⟩
  case run =>
    simp only [cc0_swiglu_fp8_eq_skeleton]; unfold cc0_swiglu_fp8_skel
    simp only [k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc2 | sl_exact hc3)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists (arg10.view.writes (Elt F) (harg10.unread y) ?L10); isplitr; swap; · iexact H10
      ipureintro; rfl
    isplitl [H11]
    · iexists _; isplitr; swap; · iexact H11
      ipureintro; exact harg11.read_unread _
    isplitl [H12]
    · iexists _; isplitr; swap; · iexact H12
      ipureintro; exact harg12.read_unread _
    iexists (arg13.view.writes (Elt F) (harg13.unread a) ?L13); isplitr; swap; · iexact H13
    ipureintro; rfl

end Cert.KernelIdeal.Own

end
-- ==== Proof.KStepB.lean ====
/- The kernel's body at the later points of the first row block: what every buffer holds afterwards, in closed form. -/
module

public import proofs.«01_k».proof.Proof.KRunB
public import proofs.«01_k».proof.Proof.KWritten

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem leftB10 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg10.view.read (Elt Ideal) (arg10.view.writes (Elt Ideal) (harg10.unread y) (runB (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).1) = putTile (i 1).val (tile x0 x2 x3 (x) x4 x5) y := by
  unfold runB
  dsimp only
  exact tile_written arg2 harg2 arg4 harg4 arg5 harg5 arg6 harg6 arg7 harg7 x0 x2 x3 x4 x5 i (x) arg10 harg10 y _ _ _ _ (fun r k => load_rows arg11 harg11 x 0 _ r k (by omega)) (fun r k => load_rows arg11 harg11 x 256 _ r k (by omega)) (fun r k => load_rows arg11 harg11 x 512 _ r k (by omega)) (fun r k => load_rows arg11 harg11 x 768 _ r k (by omega)) _ _ _ _ _ _ _ _ _ _ _ _

theorem leftB13 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg13.view.read (Elt Ideal) (arg13.view.writes (Elt Ideal) (harg13.unread a) (runB (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).2.1) = putMax (tile x0 x2 x3 (x) x4 x5) (a) := by
  unfold runB
  dsimp only
  exact max_written arg2 harg2 arg4 harg4 arg5 harg5 arg6 harg6 arg7 harg7 x0 x2 x3 x4 x5 (x) (a) arg13 _ _ _ _ _ _ _ _ _ _ (fun r k => load_rows arg11 harg11 x 0 _ r k (by omega)) (fun r k => load_rows arg11 harg11 x 256 _ r k (by omega)) (fun r k => load_rows arg11 harg11 x 512 _ r k (by omega)) (fun r k => load_rows arg11 harg11 x 768 _ r k (by omega)) (fun r k => load_rows arg13 harg13 a 0 _ r k (by omega)) (fun r k => load_rows arg13 harg13 a 256 _ r k (by omega)) (fun r k => load_rows arg13 harg13 a 512 _ r k (by omega)) (fun r k => load_rows arg13 harg13 a 768 _ r k (by omega)) _ _ _ _ _ _ _ _ _ _ _ _

/-- The body's triple in this case, with every buffer's new contents in closed form. -/
theorem stepB (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : ¬cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (o6) ∗ owns (c : Thread nD τ) arg9 fullShare (o7) ∗ owns (c : Thread nD τ) arg10 fullShare (putTile (i 1).val (tile x0 x2 x3 (x) x4 x5) y) ∗ owns (c : Thread nD τ) arg11 fullShare (x) ∗ owns (c : Thread nD τ) arg12 fullShare (v) ∗ owns (c : Thread nD τ) arg13 fullShare (putMax (tile x0 x2 x3 (x) x4 x5) (a))) -∗ K ⟨⟩))
      ⊢ wp frame (wpE (defs₀ (F := Ideal)) Variants.none c none) E (cc0_swiglu_fp8 i arg2 harg2 arg3 harg3 arg4 harg4 arg5 harg5 arg6 harg6 arg7 harg7 arg8 harg8 arg9 harg9 arg10 harg10 arg11 harg11 arg12 harg12 arg13 harg13) K := by
  have h := (runB (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).2.2 E K
  rw [← leftB10 c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a, ← leftB13 c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a]
  exact h

end Cert.KernelIdeal.Own

end
-- ==== Proof.KRunC.lean ====
/- The kernel's whole body at one kind of grid point — the first point of a row block with a block before and after it: quotients, scale, spread, zero, then one tile quantised and one computed — with every buffer
   it is given at a named content: the pieces its stores leave in each buffer they reach, and the body's triple. -/
module

public import proofs.«01_k».proof.Proof.KRunB

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- The body's run at the first point of a row block with a block before and after it: quotients, scale, spread, zero, then one tile quantised and one computed. -/
noncomputable def runC (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (o6 : Vec F S1024x256 .fp8e4m3) (o7 : Vec F S1x8x128 .f32) (y : Vec F S1024x9216 .f32) (x : Vec F S1024x128 .f32) (v : Vec F S1024x128 .f32) (a : Vec F S1024x128 .f32) :
    Σ' (L8 : List (View.Piece (Elt F) S1024x256 .fp8e4m3)) (L9 : List (View.Piece (Elt F) S1x8x128 .f32)) (L10 : List (View.Piece (Elt F) S1024x9216 .f32)) (L11 : List (View.Piece (Elt F) S1024x128 .f32)) (L12 : List (View.Piece (Elt F) S1024x128 .f32)), { L13 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (arg8.view.read (Elt F) (arg8.view.writes (Elt F) (harg8.unread o6) L8)) ∗ owns (c : Thread nD τ) arg9 fullShare (arg9.view.read (Elt F) (arg9.view.writes (Elt F) (harg9.unread o7) L9)) ∗ owns (c : Thread nD τ) arg10 fullShare (arg10.view.read (Elt F) (arg10.view.writes (Elt F) (harg10.unread y) L10)) ∗ owns (c : Thread nD τ) arg11 fullShare (arg11.view.read (Elt F) (arg11.view.writes (Elt F) (harg11.unread x) L11)) ∗ owns (c : Thread nD τ) arg12 fullShare (arg12.view.read (Elt F) (arg12.view.writes (Elt F) (harg12.unread v) L12)) ∗ owns (c : Thread nD τ) arg13 fullShare (arg13.view.read (Elt F) (arg13.view.writes (Elt F) (harg13.unread a) L13))) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?L8, ?L9, ?L10, ?L11, ?L12, ?L13, fun E K => ?run⟩
  case run =>
    simp only [cc0_swiglu_fp8_eq_skeleton]; unfold cc0_swiglu_fp8_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1 | sl_exact hc2 | sl_exact hc3)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists (arg8.view.writes (Elt F) (harg8.unread o6) ?L8); isplitr; swap; · iexact H8
      ipureintro; rfl
    isplitl [H9]
    · iexists (arg9.view.writes (Elt F) (harg9.unread o7) ?L9); isplitr; swap; · iexact H9
      ipureintro; rfl
    isplitl [H10]
    · iexists (arg10.view.writes (Elt F) (harg10.unread y) ?L10); isplitr; swap; · iexact H10
      ipureintro; rfl
    isplitl [H11]
    · iexists (arg11.view.writes (Elt F) (harg11.unread x) ?L11); isplitr; swap; · iexact H11
      ipureintro; rfl
    isplitl [H12]
    · iexists (arg12.view.writes (Elt F) (harg12.unread v) ?L12); isplitr; swap; · iexact H12
      ipureintro; rfl
    iexists (arg13.view.writes (Elt F) (harg13.unread a) ?L13); isplitr; swap; · iexact H13
    ipureintro; rfl

end Cert.KernelIdeal.Own

end
-- ==== Proof.KStepC.lean ====
/- The kernel's body at the first point of a middle row block: what every buffer holds afterwards, in closed form. -/
module

public import proofs.«01_k».proof.Proof.KRunC
public import proofs.«01_k».proof.Proof.KWritten

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem leftC8 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg8.view.read (Elt Ideal) (arg8.view.writes (Elt Ideal) (harg8.unread o6) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).1) = codes (i 1) y (inverse a) := by
  unfold runC
  dsimp only
  exact codes_written i arg8.view _ arg10 harg10 y (inverse a) _ (inverse_read arg12 a _ _ _ (load_all2 arg13 harg13 a _)) _ _ _ _

theorem leftC9 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg9.view.read (Elt Ideal) (arg9.view.writes (Elt Ideal) (harg9.unread o7) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.1) = powers a := by
  unfold runC
  dsimp only
  exact powers_written arg9.view _ a _ (load_all2 arg13 harg13 a _) _

theorem leftC10 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg10.view.read (Elt Ideal) (arg10.view.writes (Elt Ideal) (harg10.unread y) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.1) = putTile (i 1).val (tile x0 x2 x3 (spread x1) x4 x5) y := by
  unfold runC
  dsimp only
  exact tile_written arg2 harg2 arg4 harg4 arg5 harg5 arg6 harg6 arg7 harg7 x0 x2 x3 x4 x5 i (spread x1) arg10 harg10 y _ _ _ _ (fun r k => cov_rows arg11.view _ (spread x1) (spread_written arg3 harg3 x1 arg11.view arg11.view.junk _ _ _ _ _ _ _ _ _ _ _ _ _ _ _ _) 0 (by omega) _ r k) (fun r k => cov_rows arg11.view _ (spread x1) (spread_written arg3 harg3 x1 arg11.view arg11.view.junk _ _ _ _ _ _ _ _ _ _ _ _ _ _ _ _) 256 (by omega) _ r k) (fun r k => cov_rows arg11.view _ (spread x1) (spread_written arg3 harg3 x1 arg11.view arg11.view.junk _ _ _ _ _ _ _ _ _ _ _ _ _ _ _ _) 512 (by omega) _ r k) (fun r k => cov_rows arg11.view _ (spread x1) (spread_written arg3 harg3 x1 arg11.view arg11.view.junk _ _ _ _ _ _ _ _ _ _ _ _ _ _ _ _) 768 (by omega) _ r k) _ _ _ _ _ _ _ _ _ _ _ _

theorem leftC11 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg11.view.read (Elt Ideal) (arg11.view.writes (Elt Ideal) (harg11.unread x) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.1) = spread x1 := by
  unfold runC
  dsimp only
  exact spread_written arg3 harg3 x1 arg11.view _ _ _ _ _ _ _ _ _ _ _ _ _ _ _ _ _

theorem leftC12 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg12.view.read (Elt Ideal) (arg12.view.writes (Elt Ideal) (harg12.unread v) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.2.1) = inverse a := by
  unfold runC
  dsimp only
  exact inverse_written arg12.view _ a _ (load_all2 arg13 harg13 a _) _

theorem leftC13 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg13.view.read (Elt Ideal) (arg13.view.writes (Elt Ideal) (harg13.unread a) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.2.2.1) = putMax (tile x0 x2 x3 (spread x1) x4 x5) (zeros) := by
  unfold runC
  dsimp only
  exact max_written arg2 harg2 arg4 harg4 arg5 harg5 arg6 harg6 arg7 harg7 x0 x2 x3 x4 x5 (spread x1) (zeros) arg13 _ _ _ _ _ _ _ _ _ _ (fun r k => cov_rows arg11.view _ (spread x1) (spread_written arg3 harg3 x1 arg11.view arg11.view.junk _ _ _ _ _ _ _ _ _ _ _ _ _ _ _ _) 0 (by omega) _ r k) (fun r k => cov_rows arg11.view _ (spread x1) (spread_written arg3 harg3 x1 arg11.view arg11.view.junk _ _ _ _ _ _ _ _ _ _ _ _ _ _ _ _) 256 (by omega) _ r k) (fun r k => cov_rows arg11.view _ (spread x1) (spread_written arg3 harg3 x1 arg11.view arg11.view.junk _ _ _ _ _ _ _ _ _ _ _ _ _ _ _ _) 512 (by omega) _ r k) (fun r k => cov_rows arg11.view _ (spread x1) (spread_written arg3 harg3 x1 arg11.view arg11.view.junk _ _ _ _ _ _ _ _ _ _ _ _ _ _ _ _) 768 (by omega) _ r k) (fun r k => (ZeroFrom.base arg13.view _).rows (by omega) _ r k) (fun r k => ((ZeroFrom.base arg13.view _).cons _ _).rows (by omega) _ r k) (fun r k => (((ZeroFrom.base arg13.view _).cons _ _).cons _ _).rows (by omega) _ r k) (fun r k => ((((ZeroFrom.base arg13.view _).cons _ _).cons _ _).cons _ _).rows (by omega) _ r k) _ _ _ _ _ _ _ _ _ _ _ _

set_option maxHeartbeats 4000000 in
/-- The body's triple in this case, with every buffer's new contents in closed form. -/
theorem stepC (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes (i 1) y (inverse a)) ∗ owns (c : Thread nD τ) arg9 fullShare (powers a) ∗ owns (c : Thread nD τ) arg10 fullShare (putTile (i 1).val (tile x0 x2 x3 (spread x1) x4 x5) y) ∗ owns (c : Thread nD τ) arg11 fullShare (spread x1) ∗ owns (c : Thread nD τ) arg12 fullShare (inverse a) ∗ owns (c : Thread nD τ) arg13 fullShare (putMax (tile x0 x2 x3 (spread x1) x4 x5) (zeros))) -∗ K ⟨⟩))
      ⊢ wp frame (wpE (defs₀ (F := Ideal)) Variants.none c none) E (cc0_swiglu_fp8 i arg2 harg2 arg3 harg3 arg4 harg4 arg5 harg5 arg6 harg6 arg7 harg7 arg8 harg8 arg9 harg9 arg10 harg10 arg11 harg11 arg12 harg12 arg13 harg13) K := by
  have h := (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.2.2.2 E K
  rw [← leftC10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftC13 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftC8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftC12 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftC9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftC11 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a]
  exact h

end Cert.KernelIdeal.Own

end
-- ==== Proof.KRunD.lean ====
/- The kernel's whole body at one kind of grid point — later points of a middle row block: one tile quantised and one computed — with every buffer
   it is given at a named content: the pieces its stores leave in each buffer they reach, and the body's triple. -/
module

public import proofs.«01_k».proof.Proof.KRunC

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- The body's run at later points of a middle row block: one tile quantised and one computed. -/
noncomputable def runD (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (o6 : Vec F S1024x256 .fp8e4m3) (o7 : Vec F S1x8x128 .f32) (y : Vec F S1024x9216 .f32) (x : Vec F S1024x128 .f32) (v : Vec F S1024x128 .f32) (a : Vec F S1024x128 .f32) :
    Σ' (L8 : List (View.Piece (Elt F) S1024x256 .fp8e4m3)) (L10 : List (View.Piece (Elt F) S1024x9216 .f32)), { L13 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (arg8.view.read (Elt F) (arg8.view.writes (Elt F) (harg8.unread o6) L8)) ∗ owns (c : Thread nD τ) arg9 fullShare (o7) ∗ owns (c : Thread nD τ) arg10 fullShare (arg10.view.read (Elt F) (arg10.view.writes (Elt F) (harg10.unread y) L10)) ∗ owns (c : Thread nD τ) arg11 fullShare (x) ∗ owns (c : Thread nD τ) arg12 fullShare (v) ∗ owns (c : Thread nD τ) arg13 fullShare (arg13.view.read (Elt F) (arg13.view.writes (Elt F) (harg13.unread a) L13))) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?L8, ?L10, ?L13, fun E K => ?run⟩
  case run =>
    simp only [cc0_swiglu_fp8_eq_skeleton]; unfold cc0_swiglu_fp8_skel
    simp only [k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc2 | sl_exact hc3)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists (arg8.view.writes (Elt F) (harg8.unread o6) ?L8); isplitr; swap; · iexact H8
      ipureintro; rfl
    isplitl [H9]
    · iexists _; isplitr; swap; · iexact H9
      ipureintro; exact harg9.read_unread _
    isplitl [H10]
    · iexists (arg10.view.writes (Elt F) (harg10.unread y) ?L10); isplitr; swap; · iexact H10
      ipureintro; rfl
    isplitl [H11]
    · iexists _; isplitr; swap; · iexact H11
      ipureintro; exact harg11.read_unread _
    isplitl [H12]
    · iexists _; isplitr; swap; · iexact H12
      ipureintro; exact harg12.read_unread _
    iexists (arg13.view.writes (Elt F) (harg13.unread a) ?L13); isplitr; swap; · iexact H13
    ipureintro; rfl

end Cert.KernelIdeal.Own

end
-- ==== Proof.KStepD.lean ====
/- The kernel's body at the later points of a middle row block: what every buffer holds afterwards, in closed form. -/
module

public import proofs.«01_k».proof.Proof.KRunD
public import proofs.«01_k».proof.Proof.KWritten

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem leftD8 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg8.view.read (Elt Ideal) (arg8.view.writes (Elt Ideal) (harg8.unread o6) (runD (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).1) = codes (i 1) y (v) := by
  unfold runD
  dsimp only
  exact codes_written i arg8.view _ arg10 harg10 y (v) _ (load_all2 arg12 harg12 v _) _ _ _ _

theorem leftD10 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg10.view.read (Elt Ideal) (arg10.view.writes (Elt Ideal) (harg10.unread y) (runD (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).2.1) = putTile (i 1).val (tile x0 x2 x3 (x) x4 x5) y := by
  unfold runD
  dsimp only
  exact tile_written arg2 harg2 arg4 harg4 arg5 harg5 arg6 harg6 arg7 harg7 x0 x2 x3 x4 x5 i (x) arg10 harg10 y _ _ _ _ (fun r k => load_rows arg11 harg11 x 0 _ r k (by omega)) (fun r k => load_rows arg11 harg11 x 256 _ r k (by omega)) (fun r k => load_rows arg11 harg11 x 512 _ r k (by omega)) (fun r k => load_rows arg11 harg11 x 768 _ r k (by omega)) _ _ _ _ _ _ _ _ _ _ _ _

theorem leftD13 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg13.view.read (Elt Ideal) (arg13.view.writes (Elt Ideal) (harg13.unread a) (runD (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).2.2.1) = putMax (tile x0 x2 x3 (x) x4 x5) (a) := by
  unfold runD
  dsimp only
  exact max_written arg2 harg2 arg4 harg4 arg5 harg5 arg6 harg6 arg7 harg7 x0 x2 x3 x4 x5 (x) (a) arg13 _ _ _ _ _ _ _ _ _ _ (fun r k => load_rows arg11 harg11 x 0 _ r k (by omega)) (fun r k => load_rows arg11 harg11 x 256 _ r k (by omega)) (fun r k => load_rows arg11 harg11 x 512 _ r k (by omega)) (fun r k => load_rows arg11 harg11 x 768 _ r k (by omega)) (fun r k => load_rows arg13 harg13 a 0 _ r k (by omega)) (fun r k => load_rows arg13 harg13 a 256 _ r k (by omega)) (fun r k => load_rows arg13 harg13 a 512 _ r k (by omega)) (fun r k => load_rows arg13 harg13 a 768 _ r k (by omega)) _ _ _ _ _ _ _ _ _ _ _ _

/-- The body's triple in this case, with every buffer's new contents in closed form. -/
theorem stepD (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes (i 1) y (v)) ∗ owns (c : Thread nD τ) arg9 fullShare (o7) ∗ owns (c : Thread nD τ) arg10 fullShare (putTile (i 1).val (tile x0 x2 x3 (x) x4 x5) y) ∗ owns (c : Thread nD τ) arg11 fullShare (x) ∗ owns (c : Thread nD τ) arg12 fullShare (v) ∗ owns (c : Thread nD τ) arg13 fullShare (putMax (tile x0 x2 x3 (x) x4 x5) (a))) -∗ K ⟨⟩))
      ⊢ wp frame (wpE (defs₀ (F := Ideal)) Variants.none c none) E (cc0_swiglu_fp8 i arg2 harg2 arg3 harg3 arg4 harg4 arg5 harg5 arg6 harg6 arg7 harg7 arg8 harg8 arg9 harg9 arg10 harg10 arg11 harg11 arg12 harg12 arg13 harg13) K := by
  have h := (runD (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).2.2.2 E K
  rw [← leftD10 c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a, ← leftD13 c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a, ← leftD8 c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a]
  exact h

end Cert.KernelIdeal.Own

end
-- ==== Proof.KRunE.lean ====
/- The kernel's whole body at one kind of grid point — the first point after the last row block: scale and quotients of the last block, then its first tile quantised — with every buffer
   it is given at a named content: the pieces its stores leave in each buffer they reach, and the body's triple. -/
module

public import proofs.«01_k».proof.Proof.KRunD

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- The body's run at the first point after the last row block: scale and quotients of the last block, then its first tile quantised. -/
noncomputable def runE (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (o6 : Vec F S1024x256 .fp8e4m3) (o7 : Vec F S1x8x128 .f32) (y : Vec F S1024x9216 .f32) (x : Vec F S1024x128 .f32) (v : Vec F S1024x128 .f32) (a : Vec F S1024x128 .f32) :
    Σ' (L8 : List (View.Piece (Elt F) S1024x256 .fp8e4m3)) (L9 : List (View.Piece (Elt F) S1x8x128 .f32)) (L11 : List (View.Piece (Elt F) S1024x128 .f32)) (L12 : List (View.Piece (Elt F) S1024x128 .f32)), { L13 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (arg8.view.read (Elt F) (arg8.view.writes (Elt F) (harg8.unread o6) L8)) ∗ owns (c : Thread nD τ) arg9 fullShare (arg9.view.read (Elt F) (arg9.view.writes (Elt F) (harg9.unread o7) L9)) ∗ owns (c : Thread nD τ) arg10 fullShare (y) ∗ owns (c : Thread nD τ) arg11 fullShare (arg11.view.read (Elt F) (arg11.view.writes (Elt F) (harg11.unread x) L11)) ∗ owns (c : Thread nD τ) arg12 fullShare (arg12.view.read (Elt F) (arg12.view.writes (Elt F) (harg12.unread v) L12)) ∗ owns (c : Thread nD τ) arg13 fullShare (arg13.view.read (Elt F) (arg13.view.writes (Elt F) (harg13.unread a) L13))) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?L8, ?L9, ?L11, ?L12, ?L13, fun E K => ?run⟩
  case run =>
    simp only [cc0_swiglu_fp8_eq_skeleton]; unfold cc0_swiglu_fp8_skel
    simp only [k0_part4_eq_skeleton, k0_part1_eq_skeleton, k0_part2_eq_skeleton, k0_part3_eq_skeleton, k0_part5_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1 | sl_exact hc2 | sl_exact hc3)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists (arg8.view.writes (Elt F) (harg8.unread o6) ?L8); isplitr; swap; · iexact H8
      ipureintro; rfl
    isplitl [H9]
    · iexists (arg9.view.writes (Elt F) (harg9.unread o7) ?L9); isplitr; swap; · iexact H9
      ipureintro; rfl
    isplitl [H10]
    · iexists _; isplitr; swap; · iexact H10
      ipureintro; exact harg10.read_unread _
    isplitl [H11]
    · iexists (arg11.view.writes (Elt F) (harg11.unread x) ?L11); isplitr; swap; · iexact H11
      ipureintro; rfl
    isplitl [H12]
    · iexists (arg12.view.writes (Elt F) (harg12.unread v) ?L12); isplitr; swap; · iexact H12
      ipureintro; rfl
    iexists (arg13.view.writes (Elt F) (harg13.unread a) ?L13); isplitr; swap; · iexact H13
    ipureintro; rfl

end Cert.KernelIdeal.Own

end
-- ==== Proof.KStepE.lean ====
/- The kernel's body at the first point past the last row block: what every buffer holds afterwards, in closed form. -/
module

public import proofs.«01_k».proof.Proof.KRunE
public import proofs.«01_k».proof.Proof.KWritten

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem leftE8 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg8.view.read (Elt Ideal) (arg8.view.writes (Elt Ideal) (harg8.unread o6) (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).1) = codes (i 1) y (inverse a) := by
  unfold runE
  dsimp only
  exact codes_written i arg8.view _ arg10 harg10 y (inverse a) _ (inverse_read arg12 a _ _ _ (load_all2 arg13 harg13 a _)) _ _ _ _

theorem leftE9 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg9.view.read (Elt Ideal) (arg9.view.writes (Elt Ideal) (harg9.unread o7) (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.1) = powers a := by
  unfold runE
  dsimp only
  exact powers_written arg9.view _ a _ (load_all2 arg13 harg13 a _) _

theorem leftE11 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg11.view.read (Elt Ideal) (arg11.view.writes (Elt Ideal) (harg11.unread x) (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.1) = spread x1 := by
  unfold runE
  dsimp only
  exact spread_written arg3 harg3 x1 arg11.view _ _ _ _ _ _ _ _ _ _ _ _ _ _ _ _ _

theorem leftE12 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg12.view.read (Elt Ideal) (arg12.view.writes (Elt Ideal) (harg12.unread v) (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.1) = inverse a := by
  unfold runE
  dsimp only
  exact inverse_written arg12.view _ a _ (load_all2 arg13 harg13 a _) _

theorem leftE13 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg13.view.read (Elt Ideal) (arg13.view.writes (Elt Ideal) (harg13.unread a) (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.2.1) = zeros := by
  unfold runE
  dsimp only
  exact zeros_written arg13.view _ _

set_option maxHeartbeats 4000000 in
/-- The body's triple in this case, with every buffer's new contents in closed form. -/
theorem stepE (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : cond0_1 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes (i 1) y (inverse a)) ∗ owns (c : Thread nD τ) arg9 fullShare (powers a) ∗ owns (c : Thread nD τ) arg10 fullShare (y) ∗ owns (c : Thread nD τ) arg11 fullShare (spread x1) ∗ owns (c : Thread nD τ) arg12 fullShare (inverse a) ∗ owns (c : Thread nD τ) arg13 fullShare (zeros)) -∗ K ⟨⟩))
      ⊢ wp frame (wpE (defs₀ (F := Ideal)) Variants.none c none) E (cc0_swiglu_fp8 i arg2 harg2 arg3 harg3 arg4 harg4 arg5 harg5 arg6 harg6 arg7 harg7 arg8 harg8 arg9 harg9 arg10 harg10 arg11 harg11 arg12 harg12 arg13 harg13) K := by
  have h := (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a).2.2.2.2.2 E K
  rw [← leftE13 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftE8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftE12 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftE9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a, ← leftE11 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 o6 o7 y x v a]
  exact h

end Cert.KernelIdeal.Own

end
-- ==== Proof.KRunF.lean ====
/- The kernel's whole body at one kind of grid point — the last points: a tile is quantised — with every buffer
   it is given at a named content: the pieces its stores leave in each buffer they reach, and the body's triple. -/
module

public import proofs.«01_k».proof.Proof.KRunE

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 2000000 in
/-- The body's run at the last points: a tile is quantised. -/
noncomputable def runF (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : ¬cond0_3 i)
    (x0 : Vec F S1024x7168 .fp8e4m3) (x1 : Vec F S1x8x128 .f32) (x2 : Vec F S7168x256 .fp8e4m3) (x3 : Vec F S7168x256 .fp8e4m3) (x4 : Vec F S1x1x256 .f32) (x5 : Vec F S1x1x256 .f32) (o6 : Vec F S1024x256 .fp8e4m3) (o7 : Vec F S1x8x128 .f32) (y : Vec F S1024x9216 .f32) (x : Vec F S1024x128 .f32) (v : Vec F S1024x128 .f32) (a : Vec F S1024x128 .f32) :
    { L8 : List (View.Piece (Elt F) S1024x256 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (arg8.view.read (Elt F) (arg8.view.writes (Elt F) (harg8.unread o6) L8)) ∗ owns (c : Thread nD τ) arg9 fullShare (o7) ∗ owns (c : Thread nD τ) arg10 fullShare (y) ∗ owns (c : Thread nD τ) arg11 fullShare (x) ∗ owns (c : Thread nD τ) arg12 fullShare (v) ∗ owns (c : Thread nD τ) arg13 fullShare (a)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12 arg13 harg13) K } := by
  refine ⟨?L8, fun E K => ?run⟩
  case run =>
    simp only [cc0_swiglu_fp8_eq_skeleton]; unfold cc0_swiglu_fp8_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc2 | sl_exact hc3)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists (arg8.view.writes (Elt F) (harg8.unread o6) ?L8); isplitr; swap; · iexact H8
      ipureintro; rfl
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    iexists _; isplitr; swap; · iexact H13
    ipureintro; exact harg13.read_unread _

end Cert.KernelIdeal.Own

end
-- ==== Proof.KStepF.lean ====
/- The kernel's body at the points after it: what every buffer holds afterwards, in closed form. -/
module

public import proofs.«01_k».proof.Proof.KRunF
public import proofs.«01_k».proof.Proof.KWritten

@[expose] public section

-- rectangles of large extents: the elaborator's structural look recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem leftF8 (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) :
    arg8.view.read (Elt Ideal) (arg8.view.writes (Elt Ideal) (harg8.unread o6) (runF (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).1) = codes (i 1) y (v) := by
  unfold runF
  dsimp only
  exact codes_written i arg8.view _ arg10 harg10 y (v) _ (load_all2 arg12 harg12 v _) _ _ _ _

/-- The body's triple in this case, with every buffer's new contents in closed form. -/
theorem stepF (c : Dev nD) (i : grid0.Coords) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc2 : cond0_2 i) (hc3 : ¬cond0_3 i)
    (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes (i 1) y (v)) ∗ owns (c : Thread nD τ) arg9 fullShare (o7) ∗ owns (c : Thread nD τ) arg10 fullShare (y) ∗ owns (c : Thread nD τ) arg11 fullShare (x) ∗ owns (c : Thread nD τ) arg12 fullShare (v) ∗ owns (c : Thread nD τ) arg13 fullShare (a)) -∗ K ⟨⟩))
      ⊢ wp frame (wpE (defs₀ (F := Ideal)) Variants.none c none) E (cc0_swiglu_fp8 i arg2 harg2 arg3 harg3 arg4 harg4 arg5 harg5 arg6 harg6 arg7 harg7 arg8 harg8 arg9 harg9 arg10 harg10 arg11 harg11 arg12 harg12 arg13 harg13) K := by
  have h := (runF (F := Ideal) c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a).2 E K
  rw [← leftF8 c i arg2 harg2 arg3 harg3 arg4 harg4 arg5 harg5 arg6 harg6 arg7 harg7 arg8 harg8 arg9 harg9 arg10 harg10 arg11 harg11 arg12 harg12 arg13 harg13 hc0 hc2 hc3 x0 x1 x2 x3 x4 x5 o6 o7 y x v a]
  exact h

end Cert.KernelIdeal.Own

end
-- ==== Proof.KStep.lean ====
/- The kernel's body at any grid point: what every buffer holds afterwards, its cases put together. -/
module

public import proofs.«01_k».proof.Proof.KStepA
public import proofs.«01_k».proof.Proof.KStepB
public import proofs.«01_k».proof.Proof.KStepC
public import proofs.«01_k».proof.Proof.KStepD
public import proofs.«01_k».proof.Proof.KStepE
public import proofs.«01_k».proof.Proof.KStepF

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The spread scales after point `t`: rewritten at the first point of a row block. -/
def nextX (t : ℕ) (x1 : Vec Ideal S1x8x128 .f32) (x : Vec Ideal S1024x128 .f32) : Vec Ideal S1024x128 .f32 :=
  if t % 36 = 0 then spread x1 else x
/-- The reciprocals after point `t`: rewritten at the first point of a row block that has a block before it. -/
def nextI (t : ℕ) (a v : Vec Ideal S1024x128 .f32) : Vec Ideal S1024x128 .f32 :=
  if t % 36 = 0 ∧ 36 ≤ t then inverse a else v
/-- The lane maxima as the tile of point `t` finds them: zeros at the first point of a row block. -/
def baseA (t : ℕ) (a : Vec Ideal S1024x128 .f32) : Vec Ideal S1024x128 .f32 := if t % 36 = 0 then zeros else a
/-- The row block after point `t`: a tile written while there are row blocks left. -/
def nextY (t j : ℕ) (T : Fin 1024 → Fin 256 → EReal) (y : Vec Ideal S1024x9216 .f32) : Vec Ideal S1024x9216 .f32 :=
  if t < 216 then putTile j T y else y
/-- The lane maxima after point `t`. -/
def nextA (t : ℕ) (T : Fin 1024 → Fin 256 → EReal) (a : Vec Ideal S1024x128 .f32) : Vec Ideal S1024x128 .f32 :=
  if t < 216 then putMax T (baseA t a) else baseA t a
/-- The codes' staging buffer after point `t`: written once a row block is complete. -/
def next6 (t : ℕ) (j : Fin 36) (y : Vec Ideal S1024x9216 .f32) (i : Vec Ideal S1024x128 .f32) (o6 : Vec Ideal S1024x256 .fp8e4m3) :
    Vec Ideal S1024x256 .fp8e4m3 := if 36 ≤ t then codes j y i else o6
/-- The scales' staging buffer after point `t`. -/
def next7 (t : ℕ) (a : Vec Ideal S1024x128 .f32) (o7 : Vec Ideal S1x8x128 .f32) : Vec Ideal S1x8x128 .f32 :=
  if t % 36 = 0 ∧ 36 ≤ t then powers a else o7

/-- The body's triple at point `t`. -/
theorem step (c : Dev nD) (t : Fin cfg0.N) (arg2 : Memref sig .tc .vmem S1024x7168 .fp8e4m3) (harg2 : arg2.IsWhole) (arg3 : Memref sig .tc .vmem S1x8x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .fp8e4m3) (harg8 : arg8.IsWhole) (arg9 : Memref sig .tc .vmem S1x8x128 .f32) (harg9 : arg9.IsWhole) (arg10 : Memref sig .tc .vmem S1024x9216 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (x0 : Vec Ideal S1024x7168 .fp8e4m3) (x1 : Vec Ideal S1x8x128 .f32) (x2 : Vec Ideal S7168x256 .fp8e4m3) (x3 : Vec Ideal S7168x256 .fp8e4m3) (x4 : Vec Ideal S1x1x256 .f32) (x5 : Vec Ideal S1x1x256 .f32) (o6 : Vec Ideal S1024x256 .fp8e4m3) (o7 : Vec Ideal S1x8x128 .f32) (y : Vec Ideal S1024x9216 .f32) (x : Vec Ideal S1024x128 .f32) (v : Vec Ideal S1024x128 .f32) (a : Vec Ideal S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare y ∗ owns (c : Thread nD τ) arg11 fullShare x ∗ owns (c : Thread nD τ) arg12 fullShare v ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (next6 t.val (grid0.coords t 1) y (nextI t.val a v) o6) ∗ owns (c : Thread nD τ) arg9 fullShare (next7 t.val a o7) ∗ owns (c : Thread nD τ) arg10 fullShare (nextY t.val (grid0.coords t 1).val (tile x0 x2 x3 (nextX t.val x1 x) x4 x5) y) ∗ owns (c : Thread nD τ) arg11 fullShare (nextX t.val x1 x) ∗ owns (c : Thread nD τ) arg12 fullShare (nextI t.val a v) ∗ owns (c : Thread nD τ) arg13 fullShare (nextA t.val (tile x0 x2 x3 (nextX t.val x1 x) x4 x5) a)) -∗ K ⟨⟩))
      ⊢ wp frame (wpE (defs₀ (F := Ideal)) Variants.none c none) E (cc0_swiglu_fp8 (grid0.coords t) arg2 harg2 arg3 harg3 arg4 harg4 arg5 harg5 arg6 harg6 arg7 harg7 arg8 harg8 arg9 harg9 arg10 harg10 arg11 harg11 arg12 harg12 arg13 harg13) K := by
  unfold next6 next7 nextY nextA nextX nextI baseA
  by_cases h0 : t.val % 36 = 0
  · by_cases h1 : 36 ≤ t.val
    · by_cases h2 : t.val < 216
      · simp only [if_pos (⟨h0, h1⟩ : t.val % 36 = 0 ∧ 36 ≤ t.val), if_pos h0, if_pos h1, if_pos h2]
        exact stepC c (grid0.coords t) arg2 harg2 arg3 harg3 arg4 harg4 arg5 harg5 arg6 harg6 arg7 harg7 arg8 harg8 arg9 harg9 arg10 harg10 arg11 harg11 arg12 harg12 arg13 harg13 ((hcond0_0 t).mpr h0) ((hcond0_1 t).mpr h1) ((hcond0_2 t).mpr h1) ((hcond0_3 t).mpr h2) x0 x1 x2 x3 x4 x5 o6 o7 y x v a E K
      · simp only [if_pos (⟨h0, h1⟩ : t.val % 36 = 0 ∧ 36 ≤ t.val), if_pos h0, if_pos h1, if_neg h2]
        exact stepE c (grid0.coords t) arg2 harg2 arg3 harg3 arg4 harg4 arg5 harg5 arg6 harg6 arg7 harg7 arg8 harg8 arg9 harg9 arg10 harg10 arg11 harg11 arg12 harg12 arg13 harg13 ((hcond0_0 t).mpr h0) ((hcond0_1 t).mpr h1) ((hcond0_2 t).mpr h1) (mt ((hcond0_3 t).mp) h2) x0 x1 x2 x3 x4 x5 o6 o7 y x v a E K
    · have h2 : t.val < 216 := by omega
      simp only [if_neg (fun h : t.val % 36 = 0 ∧ 36 ≤ t.val => h1 h.2), if_pos h0, if_neg h1, if_pos h2]
      exact stepA c (grid0.coords t) arg2 harg2 arg3 harg3 arg4 harg4 arg5 harg5 arg6 harg6 arg7 harg7 arg8 harg8 arg9 harg9 arg10 harg10 arg11 harg11 arg12 harg12 arg13 harg13 ((hcond0_0 t).mpr h0) (mt ((hcond0_1 t).mp) h1) (mt ((hcond0_2 t).mp) h1) ((hcond0_3 t).mpr h2) x0 x1 x2 x3 x4 x5 o6 o7 y x v a E K
  · by_cases h1 : 36 ≤ t.val
    · by_cases h2 : t.val < 216
      · simp only [if_neg (fun h : t.val % 36 = 0 ∧ 36 ≤ t.val => h0 h.1), if_neg h0, if_pos h1, if_pos h2]
        exact stepD c (grid0.coords t) arg2 harg2 arg3 harg3 arg4 harg4 arg5 harg5 arg6 harg6 arg7 harg7 arg8 harg8 arg9 harg9 arg10 harg10 arg11 harg11 arg12 harg12 arg13 harg13 (mt ((hcond0_0 t).mp) h0) ((hcond0_2 t).mpr h1) ((hcond0_3 t).mpr h2) x0 x1 x2 x3 x4 x5 o6 o7 y x v a E K
      · simp only [if_neg (fun h : t.val % 36 = 0 ∧ 36 ≤ t.val => h0 h.1), if_neg h0, if_pos h1, if_neg h2]
        exact stepF c (grid0.coords t) arg2 harg2 arg3 harg3 arg4 harg4 arg5 harg5 arg6 harg6 arg7 harg7 arg8 harg8 arg9 harg9 arg10 harg10 arg11 harg11 arg12 harg12 arg13 harg13 (mt ((hcond0_0 t).mp) h0) ((hcond0_2 t).mpr h1) (mt ((hcond0_3 t).mp) h2) x0 x1 x2 x3 x4 x5 o6 o7 y x v a E K
    · have h2 : t.val < 216 := by omega
      simp only [if_neg (fun h : t.val % 36 = 0 ∧ 36 ≤ t.val => h1 h.2), if_neg h0, if_neg h1, if_pos h2]
      exact stepB c (grid0.coords t) arg2 harg2 arg3 harg3 arg4 harg4 arg5 harg5 arg6 harg6 arg7 harg7 arg8 harg8 arg9 harg9 arg10 harg10 arg11 harg11 arg12 harg12 arg13 harg13 (mt ((hcond0_0 t).mp) h0) (mt ((hcond0_2 t).mp) h1) ((hcond0_3 t).mpr h2) x0 x1 x2 x3 x4 x5 o6 o7 y x v a E K

end Cert.KernelIdeal.Own

end
-- ==== Proof.Spec.lean ====
/- The result both programs compute, over the extended reals, as plain functions of the rows and columns: the gated
   products, a row's largest magnitude, its power of two, the codes; and the invariant of the row block in the scratch. -/
module

public import proofs.«01_k».proof.Proof.KStep

@[expose] public section

set_option maxRecDepth 16384

noncomputable section

namespace Cert.KernelIdeal.Own

open Cert.KernelIdeal Cert.KernelIdeal.Gen
open Idealize.ShloMosaic

/-- The four operands: activation codes and the scale of each row, weight codes and the scale of each column. -/
structure Operands where
  x : ℕ → Fin 7168 → EReal
  xs : ℕ → EReal
  w : Fin 7168 → ℕ → EReal
  ws : ℕ → EReal

namespace Operands

variable (D : Operands)

/-- One column of the product, scaled. -/
def lin (R C : ℕ) : EReal := (∑ k : Fin 7168, D.x R k * D.w k C) * D.xs R * D.ws C
/-- The gated product at row `R`, column `C`. -/
def y (R C : ℕ) : EReal := gated (D.lin R C) (D.lin R (9216 + C))
/-- The largest magnitude of a row, times the constant next to `1/448`. -/
def top (R : ℕ) : EReal :=
  Finset.fold max (Ideal.ofBits .f32 4286578688#32) (fun c : Fin 9216 => mag (D.y R c.val)) Finset.univ * Ideal.ofBits .f32 991054117#32
/-- The reciprocal of the row's power of two. -/
def inv (R : ℕ) : EReal := Exponent.word (IntOp.subi 127#32 (Exponent.kExp (D.top R)))
/-- The row's power of two. -/
def scale (R : ℕ) : EReal := Exponent.word (IntOp.addi (Exponent.kExp (D.top R)) 127#32)
/-- The code at row `R`, column `C`. -/
def code (R C : ℕ) : EReal := clip (D.y R C * D.inv R)

end Operands

variable {D : Operands}

theorem mag_nonneg (x : EReal) : 0 ≤ mag x := Exponent.abs_nonneg x

/-- Lane `l` of row `r` holds the largest magnitude among the columns before `n` that fall on lane `l`. -/
def MaxTo (D : Operands) (R n : ℕ) (A : Vec Ideal S1024x128 .f32) : Prop :=
  ∀ (r : Fin 1024) (l : Fin 128) (z : EReal),
    A (ix2 r l) ≤ z ↔ 0 ≤ z ∧ ∀ c < n, c % 128 = l.val → mag (D.y (R + r.val) c) ≤ z

theorem MaxTo.zeros (R : ℕ) : MaxTo D R 0 zeros := fun r l z =>
  ⟨fun h => ⟨h, fun c hc => absurd hc (Nat.not_lt_zero c)⟩, fun h => h.1⟩

theorem MaxTo.step {R q : ℕ} {A : Vec Ideal S1024x128 .f32} {T : Fin 1024 → Fin 256 → EReal} (h : MaxTo D R (256 * q) A)
    (hT : ∀ r l, T r l = D.y (R + r.val) (256 * q + l.val)) : MaxTo D R (256 * (q + 1)) (putMax T A) := by
  intro r l z
  have e : putMax T A (ix2 r l) = max (A (ix2 r l)) (max (mag (T r ⟨l.val, by omega⟩)) (mag (T r ⟨128 + l.val, by omega⟩))) := rfl
  rw [e, max_le_iff, max_le_iff, h r l z, hT, hT]
  constructor
  · rintro ⟨⟨h0, h1⟩, h2, h3⟩
    refine ⟨h0, fun c hc hl => ?_⟩
    by_cases hq : c < 256 * q
    · exact h1 c hq hl
    · have : c = 256 * q + l.val ∨ c = 256 * q + (128 + l.val) := by omega
      rcases this with rfl | rfl
      · exact h2
      · exact h3
  · rintro ⟨h0, h1⟩
    exact ⟨⟨h0, fun c hc => h1 c (by omega)⟩, h1 _ (by dsimp only; omega) (by dsimp only; omega), h1 _ (by dsimp only; omega) (by dsimp only; omega)⟩

theorem MaxTo.top_eq {R : ℕ} {A : Vec Ideal S1024x128 .f32} (h : MaxTo D R 9216 A) (r : Fin 1024) : top A r = D.top (R + r.val) := by
  unfold top Operands.top
  congr 1
  rw [Exponent.lit_bot]
  have key : ∀ z : EReal, Finset.fold max ⊥ (fun l : Fin 128 => A (ix2 r l)) Finset.univ ≤ z
      ↔ Finset.fold max ⊥ (fun c : Fin 9216 => mag (D.y (R + r.val) c.val)) Finset.univ ≤ z := by
    intro z
    rw [Finset.fold_max_le, Finset.fold_max_le]
    constructor
    · rintro ⟨hb, hz⟩
      refine ⟨hb, fun c _ => ?_⟩
      exact ((h r ⟨c.val % 128, Nat.mod_lt _ (by omega)⟩ z).mp (hz _ (Finset.mem_univ _))).2 c.val c.isLt rfl
    · rintro ⟨hb, hz⟩
      refine ⟨hb, fun l _ => (h r l z).mpr ⟨?_, fun c hc _ => hz ⟨c, hc⟩ (Finset.mem_univ _)⟩⟩
      exact (mag_nonneg _).trans (hz ⟨0, by omega⟩ (Finset.mem_univ _))
  exact le_antisymm ((key _).mpr le_rfl) ((key _).mp le_rfl)

/-! ## The scratch between two points -/

/-- With `q` tiles of row block `b` done: the columns before `256 q` hold row block `b`, the later ones still the row block
    before it; the lane maxima cover the columns done; the scales are those of row block `b`; the reciprocals those of
    the row block before it. After the last row block only the row block before remains. -/
structure At (D : Operands) (b q : ℕ) (Y : Vec Ideal S1024x9216 .f32) (X I A : Vec Ideal S1024x128 .f32) : Prop where
  cur : b ≤ 5 → ∀ (r : Fin 1024) (c : Fin 9216), c.val < 256 * q → Y (ix2 r c) = D.y (1024 * b + r.val) c.val
  max : b ≤ 5 → MaxTo D (1024 * b) (256 * q) A
  xs : b ≤ 5 → ∀ (r : Fin 1024) (l : Fin 128), X (ix2 r l) = D.xs (1024 * b + r.val)
  prev : 1 ≤ b → ∀ (r : Fin 1024) (c : Fin 9216), 256 * q ≤ c.val → Y (ix2 r c) = D.y (1024 * (b - 1) + r.val) c.val
  inv : 1 ≤ b → ∀ (r : Fin 1024) (l : Fin 128), I (ix2 r l) = D.inv (1024 * (b - 1) + r.val)

/-- The scratch before point `t`: nothing is known before the first point. -/
def Before (D : Operands) (t : ℕ) (Y : Vec Ideal S1024x9216 .f32) (X I A : Vec Ideal S1024x128 .f32) : Prop :=
  t = 0 ∨ At D ((t - 1) / 36) ((t - 1) % 36 + 1) Y X I A

variable {t : ℕ} {Y : Vec Ideal S1024x9216 .f32} {X I A : Vec Ideal S1024x128 .f32}

/-- A complete row block's scaled maxima are the rows'. -/
theorem Before.top_eq (h : Before D t Y X I A) (h0 : t % 36 = 0) (h1 : 36 ≤ t) (ht : t < 252) (r : Fin 1024) :
    top A r = D.top (1024 * (t / 36 - 1) + r.val) := by
  rcases h with h | h
  · omega
  · have e1 : (t - 1) / 36 = t / 36 - 1 := by omega
    have e2 : (t - 1) % 36 + 1 = 36 := by omega
    rw [e1, e2] at h
    exact (h.max (by omega)).top_eq r

/-- The first phase of the body: at the first point of a row block the scales, the reciprocals and the maxima change. -/
theorem Before.enter (h : Before D t Y X I A) (ht : t < 252) (x1 : Vec Ideal S1x8x128 .f32)
    (h1 : t < 216 → ∀ (s : Fin 8) (l : Fin 128), x1 (ix3 0 s l) = D.xs (1024 * (t / 36) + (128 * s.val + l.val))) :
    At D (t / 36) (t % 36) Y (nextX t x1 X) (nextI t A I) (baseA t A) := by
  by_cases h0 : t % 36 = 0
  · have eX : nextX t x1 X = spread x1 := if_pos h0
    have eA : baseA t A = zeros := if_pos h0
    rw [eX, eA, h0]
    refine ⟨fun _ r c hc => absurd hc (Nat.not_lt_zero _), fun _ => MaxTo.zeros _, fun hb r l => ?_, fun hb r c _ => ?_, fun hb r l => ?_⟩
    · show x1 (ix3 0 ⟨r.val / 128, _⟩ ⟨r.val % 128, _⟩) = _
      rw [h1 (by omega)]
      dsimp only
      rw [Nat.div_add_mod]
    · rcases h with h | h
      · omega
      · have e1 : (t - 1) / 36 = t / 36 - 1 := by omega
        have e2 : (t - 1) % 36 + 1 = 36 := by omega
        rw [e1, e2] at h
        exact h.cur (by omega) r c c.isLt
    · have eI : nextI t A I = inverse A := if_pos ⟨h0, by omega⟩
      rw [eI]
      show Exponent.word (IntOp.subi 127#32 (Exponent.kExp (top A r))) = _
      rw [h.top_eq h0 (by omega) ht r]
      rfl
  · have eX : nextX t x1 X = X := if_neg h0
    have eA : baseA t A = A := if_neg h0
    have eI : nextI t A I = I := if_neg fun h => h0 h.1
    rw [eX, eA, eI]
    rcases h with h | h
    · exact absurd (by rw [h]) h0
    · have e1 : (t - 1) / 36 = t / 36 := by omega
      have e2 : (t - 1) % 36 + 1 = t % 36 := by omega
      rwa [e1, e2] at h

/-- The last phase: the tile of the point is written and taken into the maxima. -/
theorem At.write (h : At D (t / 36) (t % 36) Y X I (baseA t A)) (ht : t < 252) (T : Fin 1024 → Fin 256 → EReal)
    (hT : t < 216 → ∀ r l, T r l = D.y (1024 * (t / 36) + r.val) (256 * (t % 36) + l.val)) :
    At D (t / 36) (t % 36 + 1) (nextY t (t % 36) T Y) X I (nextA t T A) := by
  by_cases h6 : t < 216
  · have eY : nextY t (t % 36) T Y = putTile (t % 36) T Y := if_pos h6
    have eA : nextA t T A = putMax T (baseA t A) := if_pos h6
    rw [eY, eA]
    refine ⟨fun hb r c hc => ?_, fun hb => (h.max hb).step (hT h6), h.xs, fun hb r c hc => ?_, h.inv⟩
    · show (if h : 256 * (t % 36) ≤ c.val ∧ c.val < 256 * (t % 36) + 256 then T r ⟨c.val - 256 * (t % 36), by omega⟩ else Y (ix2 r c)) = _
      split
      · next hq =>
        rw [hT h6]
        dsimp only
        congr 1
        omega
      · next hq => exact h.cur hb r c (by omega)
    · show (if h : 256 * (t % 36) ≤ c.val ∧ c.val < 256 * (t % 36) + 256 then T r ⟨c.val - 256 * (t % 36), by omega⟩ else Y (ix2 r c)) = _
      rw [dif_neg (by omega)]
      exact h.prev hb r c (by omega)
  · have eY : nextY t (t % 36) T Y = Y := if_neg h6
    rw [eY]
    refine ⟨fun hb => by omega, fun hb => by omega, fun hb => by omega, fun hb r c hc => h.prev hb r c (by omega), h.inv⟩

theorem At.after (h : At D (t / 36) (t % 36 + 1) Y X I A) : Before D (t + 1) Y X I A := Or.inr h

/-- The codes written out at a point are the codes of the row block before. -/
theorem At.codes_eq {b : ℕ} {q : Fin 36} (h : At D b q.val Y X I A) (hb : 1 ≤ b) (k : S1024x256.Idx) :
    codes q Y I k = D.code (1024 * (b - 1) + (k 0).val) (256 * q.val + (k 1).val) := by
  have e1 := h.prev hb (k 0) ⟨256 * q.val + (k 1).val, by have h : (k 1).val < 256 := (k 1).isLt; omega⟩ (Nat.le_add_right _ _)
  have e2 := h.inv hb (k 0) (lane (k 1))
  unfold codes Operands.code
  rw [e1, e2]

/-- The powers of two written out at a point are those of the row block before. -/
theorem Before.powers_eq (h : Before D t Y X I A) (h0 : t % 36 = 0) (h1 : 36 ≤ t) (ht : t < 252) (k : S1x8x128.Idx) :
    powers A k = D.scale (1024 * (t / 36 - 1) + (128 * (k 1).val + (k 2).val)) := by
  unfold powers power
  rw [h.top_eq h0 h1 ht]
  rfl

/-- The tile of a point from the blocks the point reads. -/
theorem tile_eq (b q : ℕ) (x0 : Vec Ideal S1024x7168 .fp8e4m3) (x2 x3 : Vec Ideal S7168x256 .fp8e4m3) (x4 x5 : Vec Ideal S1x1x256 .f32)
    (h0 : ∀ r k, x0 (ix2 r k) = D.x (1024 * b + r.val) k)
    (h2 : ∀ k l, x2 (ix2 k l) = D.w k (256 * q + l.val)) (h3 : ∀ k l, x3 (ix2 k l) = D.w k (9216 + (256 * q + l.val)))
    (h4 : ∀ l, x4 (ix3 0 0 l) = D.ws (256 * q + l.val)) (h5 : ∀ l, x5 (ix3 0 0 l) = D.ws (9216 + (256 * q + l.val)))
    (hX : ∀ (r : Fin 1024) (l : Fin 128), X (ix2 r l) = D.xs (1024 * b + r.val)) (r : Fin 1024) (l : Fin 256) :
    tile x0 x2 x3 X x4 x5 r l = D.y (1024 * b + r.val) (256 * q + l.val) := by
  unfold tile Operands.y Operands.lin
  simp only [h0, h2, h3, h4, h5, hX]

end Cert.KernelIdeal.Own

end
-- ==== Proof.KBlocks.lean ====
/- The blocks the kernel reads at a grid point, as entries of its argument arrays. -/
module

public import proofs.«01_k».proof.Proof.Spec
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.SL.Sem

/-- The four operands from four argument arrays: rows run through both leading axes. -/
def operands (a0 : S4x1536x7168.Idx → EReal) (a1 : S4x1536x1.Idx → EReal) (a2 : S7168x18432.Idx → EReal) (a3 : S1x18432.Idx → EReal) : Operands where
  x R k := a0 (ix3 ⟨R / 1536 % 4, Nat.mod_lt _ (by omega)⟩ ⟨R % 1536, Nat.mod_lt _ (by omega)⟩ k)
  xs R := a1 (ix3 ⟨R / 1536 % 4, Nat.mod_lt _ (by omega)⟩ ⟨R % 1536, Nat.mod_lt _ (by omega)⟩ 0)
  w k C := a2 (ix2 k ⟨C % 18432, Nat.mod_lt _ (by omega)⟩)
  ws C := a3 (ix2 0 ⟨C % 18432, Nat.mod_lt _ (by omega)⟩)

variable (m : (ℓ : Loc nD τ sig) → Buf (Elt Ideal) ℓ)

/-- The operands core `c` is launched with. -/
def ops (c : Dev nD) : Operands :=
  operands (m ((c : Thread nD τ).loc main_arg0)) (m ((c : Thread nD τ).loc main_arg1)) (m ((c : Thread nD τ).loc main_arg2)) (m ((c : Thread nD τ).loc main_arg3))

/-! ## The reshapes, entry by entry -/

theorem rows_apply (a : S4x1536x7168.Idx → EReal) (h : S4x1536x7168.ShapeCasts S6144x7168) (R : Fin 6144) (k : Fin 7168) :
    shapeCast S6144x7168 a h (ix2 R k) = a (ix3 ⟨R.val / 1536 % 4, Nat.mod_lt _ (by omega)⟩ ⟨R.val % 1536, Nat.mod_lt _ (by omega)⟩ k) := by
  refine shapeCast_apply _ _ _ _ ?_
  rw [Shape.rowMajor_val_three, Shape.rowMajor_val_two]
  show (R.val / 1536 % 4 * 1536 + R.val % 1536) * 7168 + k.val = R.val * 7168 + k.val
  omega

theorem lanes_apply (a : S4x1536x1.Idx → EReal) (h : S4x1536x1.ShapeCasts S6x8x128) (b : Fin 6) (s : Fin 8) (l : Fin 128) :
    shapeCast S6x8x128 a h (ix3 b s l) = a (ix3 ⟨(1024 * b.val + (128 * s.val + l.val)) / 1536 % 4, Nat.mod_lt _ (by omega)⟩
      ⟨(1024 * b.val + (128 * s.val + l.val)) % 1536, Nat.mod_lt _ (by omega)⟩ 0) := by
  refine shapeCast_apply _ _ _ _ ?_
  rw [Shape.rowMajor_val_three, Shape.rowMajor_val_three]
  show ((1024 * b.val + (128 * s.val + l.val)) / 1536 % 4 * 1536 + (1024 * b.val + (128 * s.val + l.val)) % 1536) * 1 + 0 = (b.val * 8 + s.val) * 128 + l.val
  omega

theorem tiles_apply (a : S1x18432.Idx → EReal) (h : S1x18432.ShapeCasts S72x1x256) (b : Fin 72) (l : Fin 256) :
    shapeCast S72x1x256 a h (ix3 b 0 l) = a (ix2 0 ⟨(256 * b.val + l.val) % 18432, Nat.mod_lt _ (by omega)⟩) := by
  refine shapeCast_apply _ _ _ _ ?_
  rw [Shape.rowMajor_val_three, Shape.rowMajor_val_two]
  show 0 * 18432 + (256 * b.val + l.val) % 18432 = (b.val * 1 + 0) * 256 + l.val
  omega

/-! ## The reshaped arguments -/

theorem V_main_v0 (c : Dev nD) : (V m c main_v0 : S6144x7168.Idx → EReal)
    = shapeCast S6144x7168 (m ((c : Thread nD τ).loc main_arg0) : S4x1536x7168.Idx → EReal) shapeCasts_S4x1536x7168_S6144x7168 := rfl
theorem V_main_v1 (c : Dev nD) : (V m c main_v1 : S6x8x128.Idx → EReal)
    = shapeCast S6x8x128 (m ((c : Thread nD τ).loc main_arg1) : S4x1536x1.Idx → EReal) shapeCasts_S4x1536x1_S6x8x128 := rfl
theorem V_main_v2 (c : Dev nD) : (V m c main_v2 : S72x1x256.Idx → EReal)
    = shapeCast S72x1x256 (m ((c : Thread nD τ).loc main_arg3) : S1x18432.Idx → EReal) shapeCasts_S1x18432_S72x1x256 := rfl

theorem v0_apply (c : Dev nD) (R : Fin 6144) (k : Fin 7168) : (V m c main_v0 : S6144x7168.Idx → EReal) (ix2 R k) = (ops m c).x R.val k := by
  rw [V_main_v0]
  exact rows_apply _ _ R k

theorem v1_apply (c : Dev nD) (b : Fin 6) (s : Fin 8) (l : Fin 128) :
    (V m c main_v1 : S6x8x128.Idx → EReal) (ix3 b s l) = (ops m c).xs (1024 * b.val + (128 * s.val + l.val)) := by
  rw [V_main_v1]
  exact lanes_apply _ _ b s l

theorem v2_apply (c : Dev nD) (b : Fin 72) (l : Fin 256) :
    (V m c main_v2 : S72x1x256.Idx → EReal) (ix3 b 0 l) = (ops m c).ws (256 * b.val + l.val) := by
  rw [V_main_v2]
  exact tiles_apply _ _ b l

theorem arg2_apply (c : Dev nD) (k : Fin 7168) (C : Fin 18432) :
    (V m c main_arg2 : S7168x18432.Idx → EReal) (ix2 k C) = (ops m c).w k C.val := by
  rw [V_main_arg2]
  show (m ((c : Thread nD τ).loc main_arg2) : S7168x18432.Idx → EReal) _ = (m ((c : Thread nD τ).loc main_arg2) : S7168x18432.Idx → EReal) _
  congr 2
  exact Fin.ext (Nat.mod_eq_of_lt C.isLt).symm

/-! ## Where the blocks lie -/

theorem index0 : ∀ t : Fin cfg0.N, t.val < 216 → win0_0.index t 0 = t.val / 36 ∧ win0_0.index t 1 = 0 :=
  (by decide +kernel : ∀ t : Fin grid0.N, t.val < 216 → win0_0.index t 0 = t.val / 36 ∧ win0_0.index t 1 = 0)
theorem index1 : ∀ t : Fin cfg0.N, t.val < 216 → win0_1.index t 0 = t.val / 36 ∧ win0_1.index t 1 = 0 ∧ win0_1.index t 2 = 0 :=
  (by decide +kernel : ∀ t : Fin grid0.N, t.val < 216 → win0_1.index t 0 = t.val / 36 ∧ win0_1.index t 1 = 0 ∧ win0_1.index t 2 = 0)
theorem index2 : ∀ t : Fin cfg0.N, t.val < 216 → win0_2.index t 0 = 0 ∧ win0_2.index t 1 = t.val % 36 :=
  (by decide +kernel : ∀ t : Fin grid0.N, t.val < 216 → win0_2.index t 0 = 0 ∧ win0_2.index t 1 = t.val % 36)
theorem index3 : ∀ t : Fin cfg0.N, t.val < 216 → win0_3.index t 0 = 0 ∧ win0_3.index t 1 = t.val % 36 + 36 :=
  (by decide +kernel : ∀ t : Fin grid0.N, t.val < 216 → win0_3.index t 0 = 0 ∧ win0_3.index t 1 = t.val % 36 + 36)
theorem index4 : ∀ t : Fin cfg0.N, t.val < 216 → win0_4.index t 0 = t.val % 36 ∧ win0_4.index t 1 = 0 ∧ win0_4.index t 2 = 0 :=
  (by decide +kernel : ∀ t : Fin grid0.N, t.val < 216 → win0_4.index t 0 = t.val % 36 ∧ win0_4.index t 1 = 0 ∧ win0_4.index t 2 = 0)
theorem index5 : ∀ t : Fin cfg0.N, t.val < 216 → win0_5.index t 0 = t.val % 36 + 36 ∧ win0_5.index t 1 = 0 ∧ win0_5.index t 2 = 0 :=
  (by decide +kernel : ∀ t : Fin grid0.N, t.val < 216 → win0_5.index t 0 = t.val % 36 + 36 ∧ win0_5.index t 1 = 0 ∧ win0_5.index t 2 = 0)
theorem index6 : ∀ t : Fin cfg0.N, 36 ≤ t.val → win0_6.index t 0 = t.val / 36 - 1 ∧ win0_6.index t 1 = t.val % 36 :=
  (by decide +kernel : ∀ t : Fin grid0.N, 36 ≤ t.val → win0_6.index t 0 = t.val / 36 - 1 ∧ win0_6.index t 1 = t.val % 36)
theorem index7 : ∀ t : Fin cfg0.N, 36 ≤ t.val → win0_7.index t 0 = t.val / 36 - 1 ∧ win0_7.index t 1 = 0 ∧ win0_7.index t 2 = 0 :=
  (by decide +kernel : ∀ t : Fin grid0.N, 36 ≤ t.val → win0_7.index t 0 = t.val / 36 - 1 ∧ win0_7.index t 1 = 0 ∧ win0_7.index t 2 = 0)

/-! ## The blocks -/

theorem iblk0_apply (c : Dev nD) (t : Fin cfg0.N) (ht : t.val < 216) (r : Fin 1024) (k : Fin 7168) :
    (iblk m c 0 t : Vec Ideal S1024x7168 .fp8e4m3) (ix2 r k) = (ops m c).x (1024 * (t.val / 36) + r.val) k := by
  obtain ⟨e0, e1⟩ := index0 t ht
  refine Eq.trans ?_ (v0_apply m c ⟨1024 * (t.val / 36) + r.val, by omega⟩ k)
  unfold iblk
  rw [View.read_apply]
  show (V m c main_v0 : S6144x7168.Idx → EReal) _ = (V m c main_v0 : S6144x7168.Idx → EReal) _
  congr 1
  funext a
  apply Fin.ext
  match a with
  | ⟨0, _⟩ => show win0_0.index t 0 * 1024 + 1 * r.val = 1024 * (t.val / 36) + r.val; rw [e0]; omega
  | ⟨1, _⟩ => show win0_0.index t 1 * 7168 + 1 * k.val = k.val; rw [e1]; omega

theorem iblk1_apply (c : Dev nD) (t : Fin cfg0.N) (ht : t.val < 216) (s : Fin 8) (l : Fin 128) :
    (iblk m c 1 t : Vec Ideal S1x8x128 .f32) (ix3 0 s l) = (ops m c).xs (1024 * (t.val / 36) + (128 * s.val + l.val)) := by
  obtain ⟨e0, e1, e2⟩ := index1 t ht
  refine Eq.trans ?_ (v1_apply m c ⟨t.val / 36, by omega⟩ s l)
  unfold iblk
  rw [View.read_apply]
  show (V m c main_v1 : S6x8x128.Idx → EReal) _ = (V m c main_v1 : S6x8x128.Idx → EReal) _
  congr 1
  funext a
  apply Fin.ext
  match a with
  | ⟨0, _⟩ => show win0_1.index t 0 * 1 + 1 * 0 = t.val / 36; rw [e0]; omega
  | ⟨1, _⟩ => show win0_1.index t 1 * 8 + 1 * s.val = s.val; rw [e1]; omega
  | ⟨2, _⟩ => show win0_1.index t 2 * 128 + 1 * l.val = l.val; rw [e2]; omega

theorem iblk2_apply (c : Dev nD) (t : Fin cfg0.N) (ht : t.val < 216) (k : Fin 7168) (l : Fin 256) :
    (iblk m c 2 t : Vec Ideal S7168x256 .fp8e4m3) (ix2 k l) = (ops m c).w k (256 * (t.val % 36) + l.val) := by
  obtain ⟨e0, e1⟩ := index2 t ht
  refine Eq.trans ?_ (arg2_apply m c k ⟨256 * (t.val % 36) + l.val, by omega⟩)
  unfold iblk
  rw [View.read_apply]
  show (V m c main_arg2 : S7168x18432.Idx → EReal) _ = (V m c main_arg2 : S7168x18432.Idx → EReal) _
  congr 1
  funext a
  apply Fin.ext
  match a with
  | ⟨0, _⟩ => show win0_2.index t 0 * 7168 + 1 * k.val = k.val; rw [e0]; omega
  | ⟨1, _⟩ => show win0_2.index t 1 * 256 + 1 * l.val = 256 * (t.val % 36) + l.val; rw [e1]; omega

theorem iblk3_apply (c : Dev nD) (t : Fin cfg0.N) (ht : t.val < 216) (k : Fin 7168) (l : Fin 256) :
    (iblk m c 3 t : Vec Ideal S7168x256 .fp8e4m3) (ix2 k l) = (ops m c).w k (9216 + (256 * (t.val % 36) + l.val)) := by
  obtain ⟨e0, e1⟩ := index3 t ht
  refine Eq.trans ?_ (arg2_apply m c k ⟨9216 + (256 * (t.val % 36) + l.val), by omega⟩)
  unfold iblk
  rw [View.read_apply]
  show (V m c main_arg2 : S7168x18432.Idx → EReal) _ = (V m c main_arg2 : S7168x18432.Idx → EReal) _
  congr 1
  funext a
  apply Fin.ext
  match a with
  | ⟨0, _⟩ => show win0_3.index t 0 * 7168 + 1 * k.val = k.val; rw [e0]; omega
  | ⟨1, _⟩ => show win0_3.index t 1 * 256 + 1 * l.val = 9216 + (256 * (t.val % 36) + l.val); rw [e1]; omega

theorem iblk4_apply (c : Dev nD) (t : Fin cfg0.N) (ht : t.val < 216) (l : Fin 256) :
    (iblk m c 4 t : Vec Ideal S1x1x256 .f32) (ix3 0 0 l) = (ops m c).ws (256 * (t.val % 36) + l.val) := by
  obtain ⟨e0, e1, e2⟩ := index4 t ht
  refine Eq.trans ?_ (v2_apply m c ⟨t.val % 36, by omega⟩ l)
  unfold iblk
  rw [View.read_apply]
  show (V m c main_v2 : S72x1x256.Idx → EReal) _ = (V m c main_v2 : S72x1x256.Idx → EReal) _
  congr 1
  funext a
  apply Fin.ext
  match a with
  | ⟨0, _⟩ => show win0_4.index t 0 * 1 + 1 * 0 = t.val % 36; rw [e0]; omega
  | ⟨1, _⟩ => show win0_4.index t 1 * 1 + 1 * 0 = 0; rw [e1]
  | ⟨2, _⟩ => show win0_4.index t 2 * 256 + 1 * l.val = l.val; rw [e2]; omega

theorem iblk5_apply (c : Dev nD) (t : Fin cfg0.N) (ht : t.val < 216) (l : Fin 256) :
    (iblk m c 5 t : Vec Ideal S1x1x256 .f32) (ix3 0 0 l) = (ops m c).ws (9216 + (256 * (t.val % 36) + l.val)) := by
  obtain ⟨e0, e1, e2⟩ := index5 t ht
  refine Eq.trans ?_ ((v2_apply m c ⟨t.val % 36 + 36, by omega⟩ l).trans (congrArg (ops m c).ws (by dsimp only; omega)))
  unfold iblk
  rw [View.read_apply]
  show (V m c main_v2 : S72x1x256.Idx → EReal) _ = (V m c main_v2 : S72x1x256.Idx → EReal) _
  congr 1
  funext a
  apply Fin.ext
  match a with
  | ⟨0, _⟩ => show win0_5.index t 0 * 1 + 1 * 0 = t.val % 36 + 36; rw [e0]; omega
  | ⟨1, _⟩ => show win0_5.index t 1 * 1 + 1 * 0 = 0; rw [e1]
  | ⟨2, _⟩ => show win0_5.index t 2 * 256 + 1 * l.val = l.val; rw [e2]; omega

end Cert.KernelIdeal.Own

end
-- ==== Proof.KData.lean ====
/- The kernel's launch at the idealized instance: what each staging buffer holds after a grid point, the scratch's
   invariant between two points, the body's obligation, and the run. -/
module

public import proofs.«01_k».proof.Proof.KBlocks
public import Idealize.ShloMosaic.Lib.Quiescent
public import Idealize.ShloMosaic.Lib.Pipeline.TableIdle

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The codes' block after point `t`. -/
def codesAt (D : Operands) (t : ℕ) : Vec Ideal S1024x256 .fp8e4m3 := fun k =>
  D.code (1024 * (t / 36 - 1) + (k 0).val) (256 * (t % 36) + (k 1).val)
/-- The scales' block after point `t`. -/
def scalesAt (D : Operands) (t : ℕ) : Vec Ideal S1x8x128 .f32 := fun k =>
  D.scale (1024 * (t / 36 - 1) + (128 * (k 1).val + (k 2).val))

/-- The scratch before point `t`, and the generator's register. -/
def Phi (c : Dev nD) (t : ℕ) : sProp 𝕄 :=
  iprop((∃ Y X I A, ⌜Before (ops m c) t Y X I A⌝ ∗ owns (c : Thread nD τ) scM0_0 fullShare Y ∗ owns (c : Thread nD τ) scM0_1 fullShare X
    ∗ owns (c : Thread nD τ) scM0_2 fullShare I ∗ owns (c : Thread nD τ) scM0_3 fullShare A) ∗ (∃ r, prngReg c r))

/-- The launch's proof data: every window's staging buffer after each point, and the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt (ops m c) t.val
    | ⟨7, _⟩ => scalesAt (ops m c) t.val
    | ⟨_ + 8, h⟩ => absurd h (Nat.not_lt.2 (Nat.le_add_left _ _))
  Φ t := Phi m c t.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt (ops m c) t.val := by dsimp only [dats]
theorem after0_7 (c : Dev nD) (t : Fin cfg0.N) : (dats m 0 c).after 7 t = scalesAt (ops m c) t.val := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-! ## Where the two outputs are idle, and where they are written back -/

theorem idle6 : ∀ t : Fin cfg0.N, cfg0.idle 6 (grid0.coords t) = !decide (36 ≤ t.val) :=
  (by decide +kernel : ∀ t : Fin grid0.N, idle0 6 (grid0.coords t) = !decide (36 ≤ t.val))
theorem idle7 : ∀ t : Fin cfg0.N, cfg0.idle 7 (grid0.coords t) = !decide (t.val % 36 = 0 ∧ 36 ≤ t.val) :=
  (by decide +kernel : ∀ t : Fin grid0.N, idle0 7 (grid0.coords t) = !decide (t.val % 36 = 0 ∧ 36 ≤ t.val))
theorem flush6 : ∀ t : Fin cfg0.N, (cfg0.win 6).flush t = decide (36 ≤ t.val) :=
  (by decide +kernel : ∀ t : Fin grid0.N, win0_6.flush t = decide (36 ≤ t.val))
theorem flush7 : ∀ t : Fin cfg0.N, (cfg0.win 7).flush t = decide (t.val % 36 = 35 ∧ 36 ≤ t.val) :=
  (by decide +kernel : ∀ t : Fin grid0.N, win0_7.flush t = decide (t.val % 36 = 35 ∧ 36 ≤ t.val))

/-- Inside a row block the scales' buffer holds what the row block's first point wrote. -/
theorem fresh7 : ∀ n : ℕ, n < cfg0.N → 36 ≤ n → n % 36 ≠ 0 → cfg0.fresh 7 n = false
  | 0, _, h, _ => absurd h (by omega)
  | n + 1, hn, h, h0 => by
    have hn' : n < cfg0.N := Nat.lt_of_succ_lt hn
    rw [Pipeline.Cfg.fresh_succ cfg0 7 n hn', flush7 ⟨n, hn'⟩, idle7 ⟨n, hn'⟩]
    have h35 : ¬ (n % 36 = 35 ∧ 36 ≤ n) := by omega
    by_cases h1 : n % 36 = 0
    · have : n % 36 = 0 ∧ 36 ≤ n := ⟨h1, by omega⟩
      simp only [h35, this, decide_true, decide_false, Bool.not_true, Bool.false_and, Bool.or_false]
      simp
    · rw [fresh7 n hn' (by omega) h1]
      simp only [h35, decide_false, Bool.and_false, Bool.or_false]

theorem before0_7 (c : Dev nD) (t : Fin cfg0.N) (h1 : 36 ≤ t.val) (h0 : t.val % 36 ≠ 0) (d) :
    (dats m 0 c).before 7 t d = scalesAt (ops m c) t.val := by
  have hcarry : ∀ (t : Fin cfg0.N) (_ : t.val ≠ 0), cfg0.idle 7 (cfg0.grid.coords t) = true → cfg0.fresh 7 t.val = false →
      (dats m 0 c).after 7 t = (dats m 0 c).after 7 ⟨t.val - 1, by omega⟩ := by
    intro t ht hi _
    rw [after0_7, after0_7]
    have hi' : ¬ (t.val % 36 = 0 ∧ 36 ≤ t.val) := by
      have e := (idle7 t).symm.trans hi
      intro h
      rw [decide_eq_true h] at e
      exact Bool.false_ne_true e
    have e : t.val / 36 - 1 = (t.val - 1) / 36 - 1 := by omega
    unfold scalesAt
    rw [e]
  rw [(dats m 0 c).before_out_traj 7 rfl (fun _ _ => rfl) hcarry t.val t rfl d, fresh7 t.val t.isLt h1 h0, if_neg Bool.false_ne_true, after0_7]
  have e : t.val / 36 - 1 = (t.val - 1) / 36 - 1 := by omega
  unfold scalesAt
  rw [e]

/-! ## The body's obligation -/

/-- Window 6's buffer as the body leaves it. -/
theorem leaves6 (c : Dev nD) (t : Fin cfg0.N) (d) (j : Fin 36) (hj : j.val = t.val % 36) {Y : Vec Ideal S1024x9216 .f32} {X I A : Vec Ideal S1024x128 .f32}
    (h : At (ops m c) (t.val / 36) (t.val % 36) Y X I A) :
    (owns (c : Thread nD τ) (ms0_6 t) fullShare (next6 t.val j Y I ((dats m 0 c).before 6 t d)) : sProp 𝕄) ⊢ (dats m 0 c).leavesExact 6 t := by
  unfold Dat.leavesExact
  rw [idle6 t]
  by_cases h1 : 36 ≤ t.val
  · rw [decide_eq_true h1, after0_6]
    have e : next6 t.val j Y I ((dats m 0 c).before 6 t d) = codesAt (ops m c) t.val := by
      unfold next6
      rw [if_pos h1]
      funext k
      rw [← hj] at h
      rw [h.codes_eq (by omega) k, hj]
      rfl
    rw [e]
    exact .rfl
  · rw [decide_eq_false h1, flush6 t, decide_eq_false h1]
    unfold next6
    rw [if_neg h1]
    show _ ⊢ iprop(∃ d, owns (c : Thread nD τ) (ms0_6 t) fullShare ((dats m 0 c).before 6 t d))
    iintro H
    iexists _
    iexact H

/-- Window 7's buffer as the body leaves it. -/
theorem leaves7 (c : Dev nD) (t : Fin cfg0.N) (d) {Y : Vec Ideal S1024x9216 .f32} {X I A : Vec Ideal S1024x128 .f32}
    (h : Before (ops m c) t.val Y X I A) :
    (owns (c : Thread nD τ) (ms0_7 t) fullShare (next7 t.val A ((dats m 0 c).before 7 t d)) : sProp 𝕄) ⊢ (dats m 0 c).leavesExact 7 t := by
  have ht : t.val < 252 := Nat.lt_of_lt_of_eq t.isLt N_0
  unfold Dat.leavesExact
  rw [idle7 t]
  by_cases h1 : t.val % 36 = 0 ∧ 36 ≤ t.val
  · rw [decide_eq_true h1, after0_7]
    have e : next7 t.val A ((dats m 0 c).before 7 t d) = scalesAt (ops m c) t.val := by
      unfold next7
      rw [if_pos h1]
      funext k
      rw [h.powers_eq h1.1 h1.2 ht k]
      rfl
    rw [e]
    exact .rfl
  · rw [decide_eq_false h1, flush7 t]
    unfold next7
    rw [if_neg h1]
    by_cases h2 : t.val % 36 = 35 ∧ 36 ≤ t.val
    · rw [decide_eq_true h2, after0_7, before0_7 m c t h2.2 (by omega)]
      exact .rfl
    · rw [decide_eq_false h2]
      show _ ⊢ iprop(∃ d, owns (c : Thread nD τ) (ms0_7 t) fullShare ((dats m 0 c).before 7 t d))
      iintro H
      iexists _
      iexact H

/-- What the body gets at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem coord1 (t : Fin cfg0.N) : (grid0.coords t 1).val = t.val % 36 := by
  have e1 : (grid0.coords t 1).val = t.val / 1 % 36 := Pipeline.Grid.coords_val t 1 (by decide) rfl
  rw [e1, Nat.div_one]

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  have ht : t.val < 252 := Nat.lt_of_lt_of_eq t.isLt N_0
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  unfold Phi
  iintro ⟨⟨⟨%Y, %X, %I, %A, %hB, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hE := hB.enter ht (iblk m c 1 t) (fun h s l => iblk1_apply m c t h s l)
  have hW := hE.write ht (tile (iblk m c 0 t) (iblk m c 2 t) (iblk m c 3 t) (nextX t.val (iblk m c 1 t) X) (iblk m c 4 t) (iblk m c 5 t)) (fun h r l =>
    tile_eq (t.val / 36) (t.val % 36) _ _ _ _ _ (iblk0_apply m c t h) (iblk2_apply m c t h) (iblk3_apply m c t h) (iblk4_apply m c t h) (iblk5_apply m c t h)
      (hE.xs (by omega)) r l)
  iapply (step c t _ _ _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) Y X I A Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · iexists _, _, _, _
      isplitr
      swap
      · isplitl [HS0]; · iexact HS0
        isplitl [HS1]; · iexact HS1
        isplitl [HS2]; · iexact HS2
        iexact HS3
      ipureintro
      rw [coord1 t]
      exact hW.after
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 m c t d6 (grid0.coords t 1) (coord1 t) hE)
    iexact H6
  iapply (leaves7 m c t d7 hB)
  iexact H7

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The scratch as the region finds it. -/
theorem hin (c : Dev nD) : Pipeline.ΦA spec0 c ⊢ (dats m 0 c).Φ 0 := by
  rw [show (dats m 0 c).Φ 0 = Phi m c 0 from rfl, PhiA0_eq]
  unfold Phi
  iintro ⟨⟨⟨%Y, HS0⟩, ⟨%X, HS1⟩, ⟨%I, HS2⟩, ⟨%A, HS3⟩⟩, Hg⟩
  isplitl [HS0 HS1 HS2 HS3]
  · iexists Y, X, I, A
    isplitr
    swap
    · isplitl [HS0]; · iexact HS0
      isplitl [HS1]; · iexact HS1
      isplitl [HS2]; · iexact HS2
      iexact HS3
    ipureintro
    exact Or.inl rfl
  iexact Hg

/-- And as it leaves it. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨⟨%Y, %X, %I, %A, %hB, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- The launch: every array at what the proof data says, every counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Own

end
-- ==== Proof.KFinal.lean ====
/- The kernel's two results at the idealized instance: the codes and the powers of two of every row. -/
module

public import proofs.«01_k».proof.Proof.KData
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The two results -/

/-- The codes, row by row, as both programs return them. -/
def outCodes (D : Operands) : S4x1536x9216.Idx → EReal := fun k => D.code (1536 * (k 0).val + (k 1).val) (k 2).val
/-- The powers of two, row by row. -/
def outScales (D : Operands) : S4x1536x1.Idx → EReal := fun k => D.scale (1536 * (k 0).val + (k 1).val)

/-- The codes as the launch leaves them. -/
def arrCodes (D : Operands) : S6144x9216.Idx → EReal := fun k => D.code (k 0).val (k 1).val
/-- The powers of two as the launch leaves them. -/
def arrScales (D : Operands) : S6x8x128.Idx → EReal := fun k => D.scale (1024 * (k 0).val + (128 * (k 1).val + (k 2).val))

/-! ## The arrays after the launch -/

theorem flushed6 (c : Dev nD) (t : Fin cfg0.N) (hf : (cfg0.win 6).flush t = true) :
    (dats m 0 c).flushed 6 t = ((cfg0.win 6).blk t).view.read (Elt Ideal) (arrCodes (ops m c) : Buf (Elt Ideal) ((c : Thread nD τ).loc main_v3_0)) := by
  have h1 : 36 ≤ t.val := of_decide_eq_true ((flush6 t).symm.trans hf)
  obtain ⟨e0, e1⟩ := index6 t h1
  show (cfg0.win 6).cut (grid0.coords t) ((dats m 0 c).after 6 t) = _
  rw [after0_6]
  funext k
  rw [View.read_apply]
  show (ops m c).code (1024 * (t.val / 36 - 1) + (k 0).val) (256 * (t.val % 36) + (k 1).val)
    = (ops m c).code (win0_6.index t 0 * 1024 + 1 * (k 0).val) (win0_6.index t 1 * 256 + 1 * (k 1).val)
  rw [e0, e1]
  congr 1 <;> omega

theorem final6 (c : Dev nD) : (dats m 0 c).arrAt 6 cfg0.N = (arrCodes (ops m c) : Buf (Elt Ideal) ((c : Thread nD τ).loc main_v3_0)) :=
  (dats m 0 c).arrAt_eq_of_cover 6 (arrCodes (ops m c) : Buf (Elt Ideal) ((c : Thread nD τ).loc main_v3_0)) (flushed6 m c) fun i => by
    have h0 : (i 0 : Nat) < 6144 := (i 0).isLt
    have h1 : (i 1 : Nat) < 9216 := (i 1).isLt
    have hN : 36 * ((i 0 : Nat) / 1024 + 1) + (i 1 : Nat) / 256 < cfg0.N := by rw [show cfg0.N = 252 from N_0]; omega
    have ht : 36 ≤ (⟨36 * ((i 0 : Nat) / 1024 + 1) + (i 1 : Nat) / 256, hN⟩ : Fin cfg0.N).val := by dsimp only; omega
    obtain ⟨e0, e1⟩ := index6 ⟨36 * ((i 0 : Nat) / 1024 + 1) + (i 1 : Nat) / 256, hN⟩ ht
    refine ⟨⟨36 * ((i 0 : Nat) / 1024 + 1) + (i 1 : Nat) / 256, hN⟩, (flush6 _).trans (decide_eq_true ht), ?_⟩
    show i ∈ ((View.whole main_v3_0).slice (win0_6.rect ⟨36 * ((i 0 : Nat) / 1024 + 1) + (i 1 : Nat) / 256, hN⟩)).set
    rw [View.set_slice_whole, Rect.mem_set_unit]
    intro a
    match a with
    | ⟨0, _⟩ =>
      show win0_6.index ⟨36 * ((i 0 : Nat) / 1024 + 1) + (i 1 : Nat) / 256, hN⟩ 0 * 1024 ≤ (i 0 : Nat)
        ∧ (i 0 : Nat) < win0_6.index ⟨36 * ((i 0 : Nat) / 1024 + 1) + (i 1 : Nat) / 256, hN⟩ 0 * 1024 + 1024
      rw [e0]; dsimp only; omega
    | ⟨1, _⟩ =>
      show win0_6.index ⟨36 * ((i 0 : Nat) / 1024 + 1) + (i 1 : Nat) / 256, hN⟩ 1 * 256 ≤ (i 1 : Nat)
        ∧ (i 1 : Nat) < win0_6.index ⟨36 * ((i 0 : Nat) / 1024 + 1) + (i 1 : Nat) / 256, hN⟩ 1 * 256 + 256
      rw [e1]; dsimp only; omega

theorem flushed7 (c : Dev nD) (t : Fin cfg0.N) (hf : (cfg0.win 7).flush t = true) :
    (dats m 0 c).flushed 7 t = ((cfg0.win 7).blk t).view.read (Elt Ideal) (arrScales (ops m c) : Buf (Elt Ideal) ((c : Thread nD τ).loc main_v3_1)) := by
  have h1 : t.val % 36 = 35 ∧ 36 ≤ t.val := of_decide_eq_true ((flush7 t).symm.trans hf)
  obtain ⟨e0, e1, e2⟩ := index7 t h1.2
  show (cfg0.win 7).cut (grid0.coords t) ((dats m 0 c).after 7 t) = _
  rw [after0_7]
  funext k
  have hk : (k 0).val = 0 := by have h : (k 0).val < 1 := (k 0).isLt; omega
  rw [View.read_apply]
  show (ops m c).scale (1024 * (t.val / 36 - 1) + (128 * (k 1).val + (k 2).val))
    = (ops m c).scale (1024 * (win0_7.index t 0 * 1 + 1 * (k 0).val) + (128 * (win0_7.index t 1 * 8 + 1 * (k 1).val) + (win0_7.index t 2 * 128 + 1 * (k 2).val)))
  rw [e0, e1, e2, hk]
  congr 1
  omega

theorem final7 (c : Dev nD) : (dats m 0 c).arrAt 7 cfg0.N = (arrScales (ops m c) : Buf (Elt Ideal) ((c : Thread nD τ).loc main_v3_1)) :=
  (dats m 0 c).arrAt_eq_of_cover 7 (arrScales (ops m c) : Buf (Elt Ideal) ((c : Thread nD τ).loc main_v3_1)) (flushed7 m c) fun i => by
    have h0 : (i 0 : Nat) < 6 := (i 0).isLt
    have h1 : (i 1 : Nat) < 8 := (i 1).isLt
    have h2 : (i 2 : Nat) < 128 := (i 2).isLt
    have hN : 36 * ((i 0 : Nat) + 1) + 35 < cfg0.N := by rw [show cfg0.N = 252 from N_0]; omega
    have ht : (⟨36 * ((i 0 : Nat) + 1) + 35, hN⟩ : Fin cfg0.N).val % 36 = 35 ∧ 36 ≤ (⟨36 * ((i 0 : Nat) + 1) + 35, hN⟩ : Fin cfg0.N).val := by
      dsimp only; omega
    obtain ⟨e0, e1, e2⟩ := index7 ⟨36 * ((i 0 : Nat) + 1) + 35, hN⟩ ht.2
    refine ⟨⟨36 * ((i 0 : Nat) + 1) + 35, hN⟩, (flush7 _).trans (decide_eq_true ht), ?_⟩
    show i ∈ ((View.whole main_v3_1).slice (win0_7.rect ⟨36 * ((i 0 : Nat) + 1) + 35, hN⟩)).set
    rw [View.set_slice_whole, Rect.mem_set_unit]
    intro a
    match a with
    | ⟨0, _⟩ =>
      show win0_7.index ⟨36 * ((i 0 : Nat) + 1) + 35, hN⟩ 0 * 1 ≤ (i 0 : Nat) ∧ (i 0 : Nat) < win0_7.index ⟨36 * ((i 0 : Nat) + 1) + 35, hN⟩ 0 * 1 + 1
      rw [e0]; dsimp only; omega
    | ⟨1, _⟩ =>
      show win0_7.index ⟨36 * ((i 0 : Nat) + 1) + 35, hN⟩ 1 * 8 ≤ (i 1 : Nat) ∧ (i 1 : Nat) < win0_7.index ⟨36 * ((i 0 : Nat) + 1) + 35, hN⟩ 1 * 8 + 8
      rw [e1]; omega
    | ⟨2, _⟩ =>
      show win0_7.index ⟨36 * ((i 0 : Nat) + 1) + 35, hN⟩ 2 * 128 ≤ (i 2 : Nat) ∧ (i 2 : Nat) < win0_7.index ⟨36 * ((i 0 : Nat) + 1) + 35, hN⟩ 2 * 128 + 128
      rw [e2]; omega

/-! ## The trailing reshapes -/

theorem codes_reshaped (D : Operands) (h : S6144x9216.ShapeCasts S4x1536x9216) : shapeCast S4x1536x9216 (arrCodes D) h = outCodes D := by
  funext k
  have h0 : (k 0).val < 4 := (k 0).isLt
  have h1 : (k 1).val < 1536 := (k 1).isLt
  have h2 : (k 2).val < 9216 := (k 2).isLt
  refine (shapeCast_apply (t := S4x1536x9216) (arrCodes D) h k
    (ix2 (⟨1536 * (k 0).val + (k 1).val, by omega⟩ : Fin 6144) (⟨(k 2).val, h2⟩ : Fin 9216)) ?_).trans rfl
  rw [Shape.rowMajor_val_three, Shape.rowMajor_val_two]
  show (1536 * (k 0).val + (k 1).val) * 9216 + (k 2).val = ((k 0).val * 1536 + (k 1).val) * 9216 + (k 2).val
  omega

theorem scales_reshaped (D : Operands) (h : S6x8x128.ShapeCasts S4x1536x1) : shapeCast S4x1536x1 (arrScales D) h = outScales D := by
  funext k
  have h0 : (k 0).val < 4 := (k 0).isLt
  have h1 : (k 1).val < 1536 := (k 1).isLt
  have h2 : (k 2).val < 1 := (k 2).isLt
  refine (shapeCast_apply (t := S4x1536x1) (arrScales D) h k
    (ix3 (⟨(1536 * (k 0).val + (k 1).val) / 1024, by omega⟩ : Fin 6) (⟨(1536 * (k 0).val + (k 1).val) % 1024 / 128, by omega⟩ : Fin 8)
      (⟨(1536 * (k 0).val + (k 1).val) % 128, by omega⟩ : Fin 128)) ?_).trans ?_
  · rw [Shape.rowMajor_val_three, Shape.rowMajor_val_three]
    show ((1536 * (k 0).val + (k 1).val) / 1024 * 8 + (1536 * (k 0).val + (k 1).val) % 1024 / 128) * 128 + (1536 * (k 0).val + (k 1).val) % 128
      = ((k 0).val * 1536 + (k 1).val) * 1 + (k 2).val
    omega
  · show D.scale (1024 * ((1536 * (k 0).val + (k 1).val) / 1024) + (128 * ((1536 * (k 0).val + (k 1).val) % 1024 / 128) + (1536 * (k 0).val + (k 1).val) % 128))
      = D.scale (1536 * (k 0).val + (k 1).val)
    congr 1
    omega

theorem W_main_v4 (c : Dev nD) : (Pipeline.afterTail₀ cfgs (dats m) 0 (V0 m) [hostOps1] c main_v4 : S4x1536x9216.Idx → EReal) = outCodes (ops m c) := by
  have e : Pipeline.withArrays spec0 c (V0 m c) (fun w => (dats m 0 c).arrAt w cfg0.N) (Proc.devRef .tc main_v3_0) = (dats m 0 c).arrAt 6 cfg0.N :=
    Pipeline.Dat.withArrays_arrAt (dats m 0 c) sharedIn0 (V0 m c) (A_eq m c) 6
  rw [final6] at e
  rw [← codes_reshaped (ops m c) shapeCasts_S6144x9216_S4x1536x9216]
  unfold Pipeline.afterTail₀
  show StableHlo.after hostOps1 _ (Proc.devRef .tc main_v4) = _
  rw [StableHlo.after_cons, StableHlo.after_cons, StableHlo.after_nil, StableHlo.reshape_result_ne _ _ _ _ _ _ _ (by decide)]
  refine (StableHlo.reshape_result (Val := Elt Ideal) main_v3_0 main_v4 rfl shapeCasts_S6144x9216_S4x1536x9216 _ _ _).trans ?_
  exact congrArg (fun x : S6144x9216.Idx → EReal => shapeCast S4x1536x9216 x shapeCasts_S6144x9216_S4x1536x9216) e

theorem W_main_v5 (c : Dev nD) : (Pipeline.afterTail₀ cfgs (dats m) 0 (V0 m) [hostOps1] c main_v5 : S4x1536x1.Idx → EReal) = outScales (ops m c) := by
  have e : Pipeline.withArrays spec0 c (V0 m c) (fun w => (dats m 0 c).arrAt w cfg0.N) (Proc.devRef .tc main_v3_1) = (dats m 0 c).arrAt 7 cfg0.N :=
    Pipeline.Dat.withArrays_arrAt (dats m 0 c) sharedIn0 (V0 m c) (A_eq m c) 7
  rw [final7] at e
  rw [← scales_reshaped (ops m c) shapeCasts_S6x8x128_S4x1536x1]
  unfold Pipeline.afterTail₀
  show StableHlo.after hostOps1 _ (Proc.devRef .tc main_v5) = _
  rw [StableHlo.after_cons, StableHlo.after_cons, StableHlo.after_nil]
  refine (StableHlo.reshape_result (Val := Elt Ideal) main_v3_1 main_v5 rfl shapeCasts_S6x8x128_S4x1536x1 _ _ _).trans ?_
  rw [StableHlo.reshape_result_ne _ _ _ _ _ _ _ (by decide)]
  exact congrArg (fun x : S6x8x128.Idx → EReal => shapeCast S4x1536x1 x shapeCasts_S6x8x128_S4x1536x1) e

/-! ## The run -/

/-- The argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- Both results, and the arguments unchanged. -/
theorem run_value : θ_run defs (onTc (τ := τ) (main (F := Ideal))) ⟨m, fun _ => 0, ρ⟩ (fun r => ∀ c : Dev nD,
      r.2.mem ((c.tc : Thread nD τ).loc main_v4) = (outCodes (ops m c) : Buf (Elt Ideal) ((c.tc : Thread nD τ).loc main_v4))
      ∧ r.2.mem ((c.tc : Thread nD τ).loc main_v5) = (outScales (ops m c) : Buf (Elt Ideal) ((c.tc : Thread nD τ).loc main_v5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.2 c).2 main_v4 (Pipeline.mem_restRefs_of main_v4 (by decide) (by decide))).trans (W_main_v4 m c),
        ((h.2 c).2 main_v5 (Pipeline.mem_restRefs_of main_v5 (by decide) (by decide))).trans (W_main_v5 m c), h.1 c⟩)
    (θ_run_and (frame_of m ρ (dats m) (A_eq m) (run_main m ρ)) (run_main m ρ))

end Cert.KernelIdeal.Own

end
-- ==== Proof.RPay.lean ====
/- The values the reference computes, read at one element of the idealized instance. -/
module

public import proofs.«01_k».proof.Proof.Gen.ReferenceIdeal.Skeleton
public import proofs.«01_k».proof.Proof.KBlocks

@[expose] public section

set_option maxRecDepth 16384

noncomputable section

namespace Cert.ReferenceIdeal.Own

open Cert.ReferenceIdeal Cert.ReferenceIdeal.Gen
open Idealize.ShloMosaic
open Cert.Exponent (word rExp kExp kExp_eq_rExp rExp_zero lit_bot pow_word neg_add_word silu)
open Cert.KernelIdeal.Own (mag gated clip mag_nonneg Operands)

/-! ## The gated product and its largest magnitude -/

theorem pay1_apply (x : Vec Ideal S6144x7168 .fp8e4m3) (w : Vec Ideal S7168x18432 .fp8e4m3) (xs : Vec Ideal S6144x1 .f32) (ws : Vec Ideal S1x18432 .f32)
    (r : Fin 6144) (l : Fin 9216) :
    k0_pay1 (F := Ideal) x w xs ws (ix2 r l)
      = gated ((∑ k : Fin 7168, x (ix2 r k) * w (ix2 k ⟨l.val, by omega⟩)) * xs (ix2 r 0) * ws (ix2 0 ⟨l.val, by omega⟩))
        ((∑ k : Fin 7168, x (ix2 r k) * w (ix2 k ⟨9216 + l.val, by omega⟩)) * xs (ix2 r 0) * ws (ix2 0 ⟨9216 + l.val, by omega⟩)) := by
  unfold gated
  rw [silu]
  unfold k0_pay1
  pointwise

theorem pay2_apply (x : Vec Ideal S6144x7168 .fp8e4m3) (w : Vec Ideal S7168x18432 .fp8e4m3) (xs : Vec Ideal S6144x1 .f32) (ws : Vec Ideal S1x18432 .f32)
    (r : Fin 6144) :
    k0_pay2 (F := Ideal) x w xs ws (ix2 r 0)
      = Finset.fold max (Ideal.ofBits .f32 4286578688#32) (fun c : Fin 9216 => mag (k0_pay1 (F := Ideal) x w xs ws (ix2 r c))) Finset.univ := by
  unfold mag k0_pay2
  pointwise
  rfl

/-! ## The exponent, by counting the powers of two below the value -/

/-- The candidates of a row: for every power of two that is at most the value, its exponent and one. -/
def cand (v : FVec Ideal S6144x1 .f32) : IVec S6144x277 32 :=
  have v21 : IVec S6144x277 32 := iota .tc S6144x277 32 [1] iota_S6144x277_d1_w32
  have v22 : IVec S6144x277 32 := broadcast S6144x277 149#32
  have v23 : IVec S6144x277 32 := subi v21 v22
  have v24 : FVec Ideal S6144x277 .f32 := sitofp .f32 v23
  have v25 : FVec Ideal S6144x277 .f32 := exp2 v24
  have v26 : FVec Ideal S6144x277 .f32 := broadcastTo S6144x277 v broadcasts_S6144x1_S6144x277
  have v27 : IVec S6144x277 1 := cmpf .oge v26 v25
  have v28 : IVec S6144x277 32 := broadcast S6144x277 1#32
  have v29 : IVec S6144x277 32 := addi v23 v28
  have v30 : IVec S6144x277 32 := broadcast S6144x277 4294967147#32
  select v27 v29 v30

/-- The largest candidate of every row. -/
def best (c : IVec S6144x277 32) : IVec S6144x1 32 :=
  shapeCast S6144x1 (multiReductionI .maxsi [1] S6144 c 2147483648#32 reduces_S6144x277_S6144 rfl) shapeCasts_S6144_S6144x1

/-- The exponent with zero and infinity mapped to zero. -/
def special (v : FVec Ideal S6144x1 .f32) (q : IVec S6144x1 32) : IVec S6144x1 32 :=
  have cst_10 : Ideal .f32 := Scalar.ofBits .f32 0x00000000#32
  have v34 : FVec Ideal S6144x1 .f32 := broadcast S6144x1 cst_10
  have v35 : IVec S6144x1 1 := cmpf .oeq v v34
  have cst_11 : Ideal .f32 := Scalar.ofBits .f32 0x7F800000#32
  have v36 : FVec Ideal S6144x1 .f32 := broadcast S6144x1 cst_11
  have v37 : IVec S6144x1 1 := cmpf .oeq v v36
  have v38 : IVec S6144x1 1 := ori v35 v37
  have v39 : IVec S6144x1 32 := broadcast S6144x1 0#32
  select v38 v39 q

/-- The largest magnitude of a row times the constant next to `1/448`. -/
def scaled (a : FVec Ideal S6144x1 .f32) : FVec Ideal S6144x1 .f32 :=
  have cst_8 : Ideal .f32 := Scalar.ofBits .f32 0x3B124925#32
  have v19 : FVec Ideal S6144x1 .f32 := broadcast S6144x1 cst_8
  mulf a v19

theorem pay3_split (x : Vec Ideal S6144x7168 .fp8e4m3) (w : Vec Ideal S7168x18432 .fp8e4m3) (xs : Vec Ideal S6144x1 .f32) (ws : Vec Ideal S1x18432 .f32) :
    k0_pay3 (F := Ideal) x w xs ws
      = special (scaled (k0_pay2 (F := Ideal) x w xs ws)) (best (cand (scaled (k0_pay2 (F := Ideal) x w xs ws)))) := rfl

theorem scaled_apply (a : FVec Ideal S6144x1 .f32) (r : Fin 6144) : scaled a (ix2 r 0) = a (ix2 r 0) * Ideal.ofBits .f32 991054117#32 := by
  unfold scaled
  pointwise

theorem special_apply (v : FVec Ideal S6144x1 .f32) (q : IVec S6144x1 32) (r : Fin 6144) :
    special v q (ix2 r 0) = Scalar.select (IntOp.ori (BitVec.ofBool (decide (v (ix2 r 0) = 0)))
      (BitVec.ofBool (decide (v (ix2 r 0) = Ideal.ofBits .f32 2139095040#32)))) 0#32 (q (ix2 r 0)) := by
  unfold special
  pointwise

theorem cand_apply (v : FVec Ideal S6144x1 .f32) (r : Fin 6144) (k : Fin 277) :
    cand v (ix2 r k) = if FloatOps.exp2 (F := Ideal) (φ := .f32) (FloatOps.sitofp .f32 (IntOp.subi (BitVec.ofNat 32 k.val) 149#32)) ≤ v (ix2 r 0) then
        IntOp.addi (IntOp.subi (BitVec.ofNat 32 k.val) 149#32) 1#32 else 4294967147#32 := by
  unfold cand
  pointwise

theorem best_apply (c : IVec S6144x277 32) (r : Fin 6144) :
    best c (ix2 r 0) = Finset.fold IntOp.maxsi (2147483648#32) (fun k : Fin 277 => c (ix2 r k)) Finset.univ := by
  unfold best
  pointwise

theorem pay3_apply (x : Vec Ideal S6144x7168 .fp8e4m3) (w : Vec Ideal S7168x18432 .fp8e4m3) (xs : Vec Ideal S6144x1 .f32) (ws : Vec Ideal S1x18432 .f32)
    (r : Fin 6144) :
    k0_pay3 (F := Ideal) x w xs ws (ix2 r 0) = rExp (k0_pay2 (F := Ideal) x w xs ws (ix2 r 0) * Ideal.ofBits .f32 991054117#32) := by
  rw [pay3_split, special_apply, best_apply]
  simp only [cand_apply, scaled_apply]
  rfl

/-! ## The two results from the exponent -/

theorem pay4_apply (a : FVec Ideal S6144x1 .f32) (q : IVec S6144x1 32) (c : EReal) (r : Fin 6144) :
    k0_pay4 (F := Ideal) a q c (ix2 r 0) = if a (ix2 r 0) = c then 0#32 else q (ix2 r 0) := by
  unfold k0_pay4
  pointwise

theorem pay6_apply (a : FVec Ideal S6144x1 .f32) (q : IVec S6144x1 32) (c : EReal) (r : Fin 6144) :
    k0_pay6 (F := Ideal) a q c (ix2 r 0) = word (IntOp.addi (k0_pay4 (F := Ideal) a q c (ix2 r 0)) 127#32) := by
  rw [← pow_word]
  unfold k0_pay6
  generalize k0_pay4 (F := Ideal) a q c = e
  pointwise

theorem pay5_apply (y : FVec Ideal S6144x9216 .f32) (a : FVec Ideal S6144x1 .f32) (q : IVec S6144x1 32) (c : EReal) (r : Fin 6144) (l : Fin 9216) :
    k0_pay5 (F := Ideal) y a q c (ix2 r l)
      = clip (y (ix2 r l) * word (IntOp.subi 127#32 (k0_pay4 (F := Ideal) a q c (ix2 r 0)))) := by
  rw [← neg_add_word, ← pow_word]
  unfold clip k0_pay5
  generalize k0_pay4 (F := Ideal) a q c = e
  pointwise

/-! ## The results as the kernel's specification states them -/

variable (D : Operands) (x : Vec Ideal S6144x7168 .fp8e4m3) (w : Vec Ideal S7168x18432 .fp8e4m3) (xs : Vec Ideal S6144x1 .f32) (ws : Vec Ideal S1x18432 .f32)

/-- The arrays hold the operands. -/
structure Holds : Prop where
  x : ∀ (r : Fin 6144) k, x (ix2 r k) = D.x r.val k
  xs : ∀ r : Fin 6144, xs (ix2 r 0) = D.xs r.val
  w : ∀ k (l : Fin 18432), w (ix2 k l) = D.w k l.val
  ws : ∀ l : Fin 18432, ws (ix2 0 l) = D.ws l.val

variable {D x w xs ws}

theorem y_eq (h : Holds D x w xs ws) (r : Fin 6144) (l : Fin 9216) : k0_pay1 (F := Ideal) x w xs ws (ix2 r l) = D.y r.val l.val := by
  rw [pay1_apply]
  simp only [h.x, h.xs, h.w, h.ws]
  rfl

theorem top_eq (h : Holds D x w xs ws) (r : Fin 6144) :
    k0_pay2 (F := Ideal) x w xs ws (ix2 r 0) * Ideal.ofBits .f32 991054117#32 = D.top r.val := by
  rw [pay2_apply]
  simp only [y_eq h]
  rfl

theorem lit_zero : Ideal.ofBits .f32 0#32 = (0 : EReal) := by
  simp [Ideal.ofBits, Ideal.ieee]

theorem lit_step : (0 : EReal) ≤ Ideal.ofBits .f32 991054117#32 := by
  simp only [Ideal.ofBits, Ideal.ieee]
  norm_num
  rw [if_neg (by decide), if_neg (by decide), if_neg (by decide)]
  exact EReal.coe_nonneg.mpr (by positivity)

/-- The scaled maximum is no less than zero. -/
theorem top_nonneg (D : Operands) (R : ℕ) : 0 ≤ D.top R := by
  unfold Operands.top
  refine mul_nonneg ?_ lit_step
  exact (Finset.le_fold_max _).mpr (.inr ⟨0, Finset.mem_univ _, mag_nonneg _⟩)

theorem exp_eq (h : Holds D x w xs ws) (r : Fin 6144) :
    k0_pay4 (F := Ideal) (k0_pay2 (F := Ideal) x w xs ws) (k0_pay3 (F := Ideal) x w xs ws) (Ideal.ofBits .f32 0#32) (ix2 r 0) = kExp (D.top r.val) := by
  rw [pay4_apply, pay3_apply, top_eq h, kExp_eq_rExp (top_nonneg D r.val)]
  split
  · next h0 =>
    rw [← top_eq h, h0]
    rw [lit_zero, zero_mul, rExp_zero]
  · rfl

theorem codes_eq (h : Holds D x w xs ws) (r : Fin 6144) (l : Fin 9216) :
    k0_pay5 (F := Ideal) (k0_pay1 (F := Ideal) x w xs ws) (k0_pay2 (F := Ideal) x w xs ws) (k0_pay3 (F := Ideal) x w xs ws) (Ideal.ofBits .f32 0#32) (ix2 r l)
      = D.code r.val l.val := by
  rw [pay5_apply, exp_eq h, y_eq h]
  rfl

theorem scales_eq (h : Holds D x w xs ws) (r : Fin 6144) :
    k0_pay6 (F := Ideal) (k0_pay2 (F := Ideal) x w xs ws) (k0_pay3 (F := Ideal) x w xs ws) (Ideal.ofBits .f32 0#32) (ix2 r 0) = D.scale r.val := by
  rw [pay6_apply, exp_eq h]
  rfl

end Cert.ReferenceIdeal.Own

end
-- ==== Proof.RValue.lean ====
/- The reference's two results at the idealized instance, as the kernel's specification states them. -/
module

public import proofs.«01_k».proof.Proof.RPay
public import proofs.«01_k».proof.Proof.KFinal
public import proofs.«01_k».proof.Proof.Gen.ReferenceIdeal.Frame

@[expose] public section

set_option maxRecDepth 16384

noncomputable section

namespace Cert.ReferenceIdeal.Own

open Cert.ReferenceIdeal Cert.ReferenceIdeal.Gen
open Idealize.ShloMosaic Idealize.ShloMosaic.TcCoe Idealize.SL.Sem
open Cert.KernelIdeal.Own (Operands operands outCodes outScales rows_apply codes_reshaped)

variable (m : (ℓ : Loc nD τ sig) → Buf (Elt Ideal) ℓ) (ρ : Dev nD → PrngReg)

/-- The operands core `c` is launched with. -/
def ops (c : Dev nD) : Operands :=
  operands (m ((c : Thread nD τ).loc main_arg0)) (m ((c : Thread nD τ).loc main_arg1)) (m ((c : Thread nD τ).loc main_arg2)) (m ((c : Thread nD τ).loc main_arg3))

/-! ## The reshapes, entry by entry -/

theorem col_apply (a : S4x1536x1.Idx → EReal) (h : S4x1536x1.ShapeCasts S6144x1) (R : Fin 6144) :
    shapeCast S6144x1 a h (ix2 R 0) = a (ix3 ⟨R.val / 1536 % 4, Nat.mod_lt _ (by omega)⟩ ⟨R.val % 1536, Nat.mod_lt _ (by omega)⟩ 0) := by
  refine shapeCast_apply _ _ _ _ ?_
  rw [Shape.rowMajor_val_three, Shape.rowMajor_val_two]
  show (R.val / 1536 % 4 * 1536 + R.val % 1536) * 1 + 0 = R.val * 1 + 0
  omega

theorem V_main_v0 (c : Dev nD) : (V m c main_v0 : S6144x7168.Idx → EReal)
    = shapeCast S6144x7168 (m ((c : Thread nD τ).loc main_arg0) : S4x1536x7168.Idx → EReal) shapeCasts_S4x1536x7168_S6144x7168 := rfl
theorem V_main_v1 (c : Dev nD) : (V m c main_v1 : S6144x1.Idx → EReal)
    = shapeCast S6144x1 (m ((c : Thread nD τ).loc main_arg1) : S4x1536x1.Idx → EReal) shapeCasts_S4x1536x1_S6144x1 := rfl

/-! ## The blocks: each the whole of its array -/

theorem iblk0_apply (c : Dev nD) (t : Fin cfg0.N) (r : Fin 6144) (k : Fin 7168) :
    (iblk m c 0 t : Vec Ideal S6144x7168 .fp8e4m3) (ix2 r k) = (ops m c).x r.val k := by
  refine Eq.trans ?_ (rows_apply (m ((c : Thread nD τ).loc main_arg0) : S4x1536x7168.Idx → EReal) shapeCasts_S4x1536x7168_S6144x7168 r k)
  rw [← V_main_v0]
  unfold iblk
  rw [View.read_apply]
  show (V m c main_v0 : S6144x7168.Idx → EReal) _ = (V m c main_v0 : S6144x7168.Idx → EReal) _
  congr 1
  funext a
  apply Fin.ext
  match a with
  | ⟨0, _⟩ => show 0 * 6144 + 1 * r.val = r.val; omega
  | ⟨1, _⟩ => show 0 * 7168 + 1 * k.val = k.val; omega

theorem iblk1_apply (c : Dev nD) (t : Fin cfg0.N) (r : Fin 6144) :
    (iblk m c 1 t : Vec Ideal S6144x1 .f32) (ix2 r 0) = (ops m c).xs r.val := by
  refine Eq.trans ?_ (col_apply (m ((c : Thread nD τ).loc main_arg1) : S4x1536x1.Idx → EReal) shapeCasts_S4x1536x1_S6144x1 r)
  rw [← V_main_v1]
  unfold iblk
  rw [View.read_apply]
  show (V m c main_v1 : S6144x1.Idx → EReal) _ = (V m c main_v1 : S6144x1.Idx → EReal) _
  congr 1
  funext a
  apply Fin.ext
  match a with
  | ⟨0, _⟩ => show 0 * 6144 + 1 * r.val = r.val; omega
  | ⟨1, _⟩ => show 0 * 1 + 1 * 0 = 0; omega

theorem iblk2_apply (c : Dev nD) (t : Fin cfg0.N) (k : Fin 7168) (l : Fin 18432) :
    (iblk m c 2 t : Vec Ideal S7168x18432 .fp8e4m3) (ix2 k l) = (ops m c).w k l.val := by
  unfold iblk
  rw [View.read_apply]
  show (V m c main_arg2 : S7168x18432.Idx → EReal) _ = (m ((c : Thread nD τ).loc main_arg2) : S7168x18432.Idx → EReal) _
  rw [V_main_arg2]
  congr 1
  funext a
  apply Fin.ext
  match a with
  | ⟨0, _⟩ => show 0 * 7168 + 1 * k.val = k.val; omega
  | ⟨1, _⟩ => show 0 * 18432 + 1 * l.val = l.val % 18432; omega

theorem iblk3_apply (c : Dev nD) (t : Fin cfg0.N) (l : Fin 18432) :
    (iblk m c 3 t : Vec Ideal S1x18432 .f32) (ix2 0 l) = (ops m c).ws l.val := by
  unfold iblk
  rw [View.read_apply]
  show (V m c main_arg3 : S1x18432.Idx → EReal) _ = (m ((c : Thread nD τ).loc main_arg3) : S1x18432.Idx → EReal) _
  rw [V_main_arg3]
  congr 1
  funext a
  apply Fin.ext
  match a with
  | ⟨0, _⟩ => show 0 * 1 + 1 * 0 = 0; omega
  | ⟨1, _⟩ => show 0 * 18432 + 1 * l.val = l.val % 18432; omega

theorem holds (c : Dev nD) (t : Fin cfg0.N) : Holds (ops m c) (iblk m c 0 t) (iblk m c 2 t) (iblk m c 1 t) (iblk m c 3 t) :=
  ⟨iblk0_apply m c t, iblk1_apply m c t, iblk2_apply m c t, iblk3_apply m c t⟩

/-! ## What the body stores -/

theorem out4_eq (x0 : Vec Ideal S6144x7168 .fp8e4m3) (x1 : Vec Ideal S6144x1 .f32) (x2 : Vec Ideal S7168x18432 .fp8e4m3) (x3 : Vec Ideal S1x18432 .f32) :
    out0_4 (F := Ideal) x0 x1 x2 x3
      = k0_pay5 (F := Ideal) (k0_pay1 (F := Ideal) x0 x2 x1 x3) (k0_pay2 (F := Ideal) x0 x2 x1 x3) (k0_pay3 (F := Ideal) x0 x2 x1 x3) (Ideal.ofBits .f32 0#32) := by
  have z : (![0, 0] : Fin 2 → ℕ) = fun _ => 0 := by funext a; fin_cases a <;> rfl
  unfold out0_4 k0_pay7 k0_pay8
  refine (View.canon_cons_unit_zero z inb_S6144x9216_S6144x9216_0_0 _ _).trans ?_
  rw [show View.ld x0 r0_0 = x0 from View.ld_unit_zero z _ _, show View.ld x2 r0_1 = x2 from View.ld_unit_zero z _ _,
    show View.ld x1 r0_2 = x1 from View.ld_unit_zero z _ _, show View.ld x3 r0_3 = x3 from View.ld_unit_zero z _ _]
  rfl

theorem out5_eq (x0 : Vec Ideal S6144x7168 .fp8e4m3) (x1 : Vec Ideal S6144x1 .f32) (x2 : Vec Ideal S7168x18432 .fp8e4m3) (x3 : Vec Ideal S1x18432 .f32) :
    out0_5 (F := Ideal) x0 x1 x2 x3
      = k0_pay6 (F := Ideal) (k0_pay2 (F := Ideal) x0 x2 x1 x3) (k0_pay3 (F := Ideal) x0 x2 x1 x3) (Ideal.ofBits .f32 0#32) := by
  have z : (![0, 0] : Fin 2 → ℕ) = fun _ => 0 := by funext a; fin_cases a <;> rfl
  unfold out0_5 k0_pay7 k0_pay8
  refine (View.canon_cons_unit_zero z inb_S6144x1_S6144x1_0_0 _ _).trans ?_
  rw [show View.ld x0 r0_0 = x0 from View.ld_unit_zero z _ _, show View.ld x2 r0_1 = x2 from View.ld_unit_zero z _ _,
    show View.ld x1 r0_2 = x1 from View.ld_unit_zero z _ _, show View.ld x3 r0_3 = x3 from View.ld_unit_zero z _ _]
  rfl

/-! ## The arrays after the launch -/

/-- The codes as the launch leaves them. -/
def arrCodes (D : Operands) : S6144x9216.Idx → EReal := fun k => D.code (k 0).val (k 1).val
/-- The powers of two as the launch leaves them. -/
def arrScales (D : Operands) : S6144x1.Idx → EReal := fun k => D.scale (k 0).val

theorem ix2_eta {N W : ℕ} (k : (⟨2, ![N, W]⟩ : Shape).Idx) : k = ix2 (k 0 : Fin N) (k 1 : Fin W) := by
  funext a
  match a with
  | ⟨0, _⟩ => rfl
  | ⟨1, _⟩ => rfl

theorem after4_apply (c : Dev nD) (t : Fin cfg0.N) (k : S6144x9216.Idx) :
    out0_4 (F := Ideal) (iblk m c 0 t) (iblk m c 1 t) (iblk m c 2 t) (iblk m c 3 t) k = (ops m c).code (k 0).val (k 1).val := by
  rw [out4_eq]
  obtain ⟨r, l, rfl⟩ : ∃ (r : Fin 6144) (l : Fin 9216), k = ix2 r l := ⟨k 0, k 1, ix2_eta k⟩
  exact codes_eq (holds m c t) r l

theorem after5_apply (c : Dev nD) (t : Fin cfg0.N) (k : S6144x1.Idx) :
    out0_5 (F := Ideal) (iblk m c 0 t) (iblk m c 1 t) (iblk m c 2 t) (iblk m c 3 t) k = (ops m c).scale (k 0).val := by
  rw [out5_eq]
  obtain ⟨r, l, rfl⟩ : ∃ (r : Fin 6144) (l : Fin 1), k = ix2 r l := ⟨k 0, k 1, ix2_eta k⟩
  rw [Subsingleton.elim l 0]
  exact scales_eq (holds m c t) r

theorem flushed4 (c : Dev nD) (t : Fin cfg0.N) :
    (dats m 0 c).flushed 4 t = ((cfg0.win 4).blk t).view.read (Elt Ideal) (arrCodes (ops m c) : Buf (Elt Ideal) ((c : Thread nD τ).loc main_v2_0)) := by
  show (cfg0.win 4).cut (grid0.coords t) ((dats m 0 c).after 4 t) = _
  rw [after0_4]
  funext k
  refine (after4_apply m c t k).trans ?_
  rw [View.read_apply]
  show (ops m c).code (k 0).val (k 1).val = (ops m c).code (0 * 6144 + 1 * (k 0).val) (0 * 9216 + 1 * (k 1).val)
  congr 1 <;> omega

theorem flushed5 (c : Dev nD) (t : Fin cfg0.N) :
    (dats m 0 c).flushed 5 t = ((cfg0.win 5).blk t).view.read (Elt Ideal) (arrScales (ops m c) : Buf (Elt Ideal) ((c : Thread nD τ).loc main_v2_1)) := by
  show (cfg0.win 5).cut (grid0.coords t) ((dats m 0 c).after 5 t) = _
  rw [after0_5]
  funext k
  refine (after5_apply m c t k).trans ?_
  rw [View.read_apply]
  show (ops m c).scale (k 0).val = (ops m c).scale (0 * 6144 + 1 * (k 0).val)
  congr 1; omega

theorem final4 (c : Dev nD) : (dats m 0 c).arrAt 4 cfg0.N = (arrCodes (ops m c) : Buf (Elt Ideal) ((c : Thread nD τ).loc main_v2_0)) :=
  (dats m 0 c).arrAt_eq_of_cover 4 (arrCodes (ops m c) : Buf (Elt Ideal) ((c : Thread nD τ).loc main_v2_0)) (fun t _ => flushed4 m c t) fun i => by
    have h0 : (i 0 : Nat) < 6144 := (i 0).isLt
    have h1 : (i 1 : Nat) < 9216 := (i 1).isLt
    refine ⟨t0_0, flush0_4 _, ?_⟩
    show i ∈ ((View.whole main_v2_0).slice (win0_4.rect t0_0)).set
    rw [View.set_slice_whole, Rect.mem_set_unit]
    intro a
    match a with
    | ⟨0, _⟩ => show 0 * 6144 ≤ (i 0 : Nat) ∧ (i 0 : Nat) < 0 * 6144 + 6144; omega
    | ⟨1, _⟩ => show 0 * 9216 ≤ (i 1 : Nat) ∧ (i 1 : Nat) < 0 * 9216 + 9216; omega

theorem final5 (c : Dev nD) : (dats m 0 c).arrAt 5 cfg0.N = (arrScales (ops m c) : Buf (Elt Ideal) ((c : Thread nD τ).loc main_v2_1)) :=
  (dats m 0 c).arrAt_eq_of_cover 5 (arrScales (ops m c) : Buf (Elt Ideal) ((c : Thread nD τ).loc main_v2_1)) (fun t _ => flushed5 m c t) fun i => by
    have h0 : (i 0 : Nat) < 6144 := (i 0).isLt
    have h1 : (i 1 : Nat) < 1 := (i 1).isLt
    refine ⟨t0_0, flush0_5 _, ?_⟩
    show i ∈ ((View.whole main_v2_1).slice (win0_5.rect t0_0)).set
    rw [View.set_slice_whole, Rect.mem_set_unit]
    intro a
    match a with
    | ⟨0, _⟩ => show 0 * 6144 ≤ (i 0 : Nat) ∧ (i 0 : Nat) < 0 * 6144 + 6144; omega
    | ⟨1, _⟩ => show 0 * 1 ≤ (i 1 : Nat) ∧ (i 1 : Nat) < 0 * 1 + 1; omega

/-! ## The trailing reshapes -/

/-- No two windows share an array but input windows. -/
theorem sharedIn0 : Pipeline.SharedIn spec0 := by decide

theorem scales_reshaped (D : Operands) (h : S6144x1.ShapeCasts S4x1536x1) : shapeCast S4x1536x1 (arrScales D) h = outScales D := by
  funext k
  have h0 : (k 0).val < 4 := (k 0).isLt
  have h1 : (k 1).val < 1536 := (k 1).isLt
  have h2 : (k 2).val < 1 := (k 2).isLt
  refine (shapeCast_apply (t := S4x1536x1) (arrScales D) h k
    (ix2 (⟨1536 * (k 0).val + (k 1).val, by omega⟩ : Fin 6144) (⟨(k 2).val, h2⟩ : Fin 1)) ?_).trans rfl
  rw [Shape.rowMajor_val_three, Shape.rowMajor_val_two]
  show (1536 * (k 0).val + (k 1).val) * 1 + (k 2).val = ((k 0).val * 1536 + (k 1).val) * 1 + (k 2).val
  omega

theorem W_main_v3 (c : Dev nD) : (Pipeline.afterTail₀ cfgs (dats m) 0 (V0 m) [hostOps1] c main_v3 : S4x1536x9216.Idx → EReal) = outCodes (ops m c) := by
  have e : Pipeline.withArrays spec0 c (V0 m c) (fun w => (dats m 0 c).arrAt w cfg0.N) (Proc.devRef .tc main_v2_0) = (dats m 0 c).arrAt 4 cfg0.N :=
    Pipeline.Dat.withArrays_arrAt (dats m 0 c) sharedIn0 (V0 m c) (A_eq m c) 4
  rw [final4] at e
  rw [← codes_reshaped (ops m c) shapeCasts_S6144x9216_S4x1536x9216]
  unfold Pipeline.afterTail₀
  show StableHlo.after hostOps1 _ (Proc.devRef .tc main_v3) = _
  rw [StableHlo.after_cons, StableHlo.after_cons, StableHlo.after_nil, StableHlo.reshape_result_ne _ _ _ _ _ _ _ (by decide)]
  refine (StableHlo.reshape_result (Val := Elt Ideal) main_v2_0 main_v3 rfl shapeCasts_S6144x9216_S4x1536x9216 _ _ _).trans ?_
  exact congrArg (fun x : S6144x9216.Idx → EReal => shapeCast S4x1536x9216 x shapeCasts_S6144x9216_S4x1536x9216) e

theorem W_main_v4 (c : Dev nD) : (Pipeline.afterTail₀ cfgs (dats m) 0 (V0 m) [hostOps1] c main_v4 : S4x1536x1.Idx → EReal) = outScales (ops m c) := by
  have e : Pipeline.withArrays spec0 c (V0 m c) (fun w => (dats m 0 c).arrAt w cfg0.N) (Proc.devRef .tc main_v2_1) = (dats m 0 c).arrAt 5 cfg0.N :=
    Pipeline.Dat.withArrays_arrAt (dats m 0 c) sharedIn0 (V0 m c) (A_eq m c) 5
  rw [final5] at e
  rw [← scales_reshaped (ops m c) shapeCasts_S6144x1_S4x1536x1]
  unfold Pipeline.afterTail₀
  show StableHlo.after hostOps1 _ (Proc.devRef .tc main_v4) = _
  rw [StableHlo.after_cons, StableHlo.after_cons, StableHlo.after_nil]
  refine (StableHlo.reshape_result (Val := Elt Ideal) main_v2_1 main_v4 rfl shapeCasts_S6144x1_S4x1536x1 _ _ _).trans ?_
  rw [StableHlo.reshape_result_ne _ _ _ _ _ _ _ (by decide)]
  exact congrArg (fun x : S6144x1.Idx → EReal => shapeCast S4x1536x1 x shapeCasts_S6144x1_S4x1536x1) e

/-- Both results, and the arguments unchanged. -/
theorem run_value : θ_run defs (onTc (τ := τ) (main (F := Ideal))) ⟨m, fun _ => 0, ρ⟩ (fun r => ∀ c : Dev nD,
      r.2.mem ((c.tc : Thread nD τ).loc main_v3) = (outCodes (ops m c) : Buf (Elt Ideal) ((c.tc : Thread nD τ).loc main_v3))
      ∧ r.2.mem ((c.tc : Thread nD τ).loc main_v4) = (outScales (ops m c) : Buf (Elt Ideal) ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.2 c).2 main_v3 (Pipeline.mem_restRefs_of main_v3 (by decide) (by decide))).trans (W_main_v3 m c),
        ((h.2 c).2 main_v4 (Pipeline.mem_restRefs_of main_v4 (by decide) (by decide))).trans (W_main_v4 m c), h.1 c⟩)
    (θ_run_and (frame_of m ρ (dats m) (A_eq m) (run_main m ρ)) (run_main m ρ))

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KFinal
public import proofs.«01_k».proof.Proof.RValue
public import Idealize.ShloMosaic.Adequacy
public import Idealize.ShloMosaic.Init

@[expose] public section

noncomputable section

namespace Cert.Proof

open Idealize.ShloMosaic Idealize.SL.Sem

/-- Equal arguments are equal operands. -/
theorem ops_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Own.ops m' c = Cert.KernelIdeal.Own.ops m c := by
  have e : Cert.KernelIdeal.Own.operands _ _ _ _ = Cert.KernelIdeal.Own.operands _ _ _ _ :=
    congr (congr (congr (congrArg Cert.KernelIdeal.Own.operands h.1) h.2.1) h.2.2.1) h.2.2.2
  exact e

theorem claim : Cert.Claim := ⟨Cert.Kernel.Gen.facts, Cert.KernelIdeal.Gen.facts, Cert.ReferenceIdeal.Gen.facts,
  fun m g _ => Cert.Kernel.Own.frame m g,
  fun m g _ => Cert.KernelIdeal.Own.frame m g,
  fun m g _ => Cert.ReferenceIdeal.Gen.frame m g,
  trivial,
  fun m g m' g' _ h => ⟨fun c => Cert.KernelIdeal.Own.outCodes (Cert.KernelIdeal.Own.ops m c),
    fun c => Cert.KernelIdeal.Own.outScales (Cert.KernelIdeal.Own.ops m c),
    Cert.KernelIdeal.Own.run_value m g,
    (θ_run Cert.ReferenceIdeal.defs _ _).mono (fun _ hr c =>
      ⟨(hr c).1.trans (congrArg Cert.KernelIdeal.Own.outCodes (ops_eq m m' c (h c))),
        (hr c).2.1.trans (congrArg Cert.KernelIdeal.Own.outScales (ops_eq m m' c (h c))), (hr c).2.2⟩)
      (Cert.ReferenceIdeal.Own.run_value m' g')⟩⟩

end Cert.Proof

end
